-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v11)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v15_0)) (v1 : (c : Dev Cert.Kernel11Ideal.nD) → Buf (Elt Ideal) ((c.tc : Thread Cert.Kernel11Ideal.nD Cert.Kernel11Ideal.τ).loc Cert.Kernel11Ideal.main_v15_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v15_0) = v0 c
          ∧ r.2.mem ((c.tc : Thread Cert.Kernel11Ideal.nD Cert.Kernel11Ideal.τ).loc Cert.Kernel11Ideal.main_v15_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_v19) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8192x12288 : Shape := ⟨2, ![8192, 12288]⟩
abbrev S8192x16 : Shape := ⟨2, ![8192, 16]⟩
abbrev S8192x8192 : Shape := ⟨2, ![8192, 8192]⟩
abbrev S_ : Shape := ⟨0, ![]⟩

class Facts : Prop where
  slices_S8192x12288_S8192x8192_0_0 : S8192x12288.Slices ![0, 0] S8192x8192
  bitsLt_bf16_f32 : FTy.bits .bf16 < FTy.bits .f32
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S8192x12288 .bf16) (main_arg1 : FVec F S8192x16 .f32) : IVec S_ 1 :=
  let main_v0 : FVec F S8192x8192 .bf16 := (extractStridedSlice S8192x8192 ![0, 0] · slices_S8192x12288_S8192x8192_0_0) main_arg0
  let main_v1 : FVec F S8192x8192 .f32 := (extf .f32 · bitsLt_bf16_f32) main_v0
  let main_v2 : FVec F S8192x8192 .f32 := Host.absf main_v1
  let main_cst : FVec F S_ .f32 := constant S_ .f32 0x7F800000#32
  let main_v3 : FVec F S8192x8192 .f32 := broadcastInDim S8192x8192 ![] bcast_S_S8192x8192 main_cst
  let main_v4 : IVec S8192x8192 1 := cmpf .olt main_v2 main_v3
  let main_c : IVec S_ 1 := constantI S_ 1 1#1
  let main_v5 : IVec S_ 1 := (fun x v => Host.reduce IntOp.andi x v reducesTo_S8192x8192_S_d0_1 h_S_) main_v4 main_c
  let main_v6 : FVec F S8192x16 .f32 := Host.absf main_arg1
  let main_cst_0 : FVec F S_ .f32 := constant S_ .f32 0x7F800000#32
  let main_v7 : FVec F S8192x16 .f32 := broadcastInDim S8192x16 ![] bcast_S_S8192x16 main_cst_0
  let main_v8 : IVec S8192x16 1 := cmpf .olt main_v6 main_v7
  let main_c_1 : IVec S_ 1 := constantI S_ 1 1#1
  let main_v9 : IVec S_ 1 := (fun x v => Host.reduce IntOp.andi x v reducesTo_S8192x16_S_d0_1 h_S_) main_v8 main_c_1
  let main_v10 : IVec S_ 1 := andi main_v5 main_v9
  main_v10
-- ==== Kernel.lean ====
abbrev S8192x12288 : Shape := ⟨2, ![8192, 12288]⟩
abbrev S8192x16 : Shape := ⟨2, ![8192, 16]⟩
abbrev S_ : Shape := ⟨0, ![]⟩
abbrev S8192x128 : Shape := ⟨2, ![8192, 128]⟩
abbrev S16x8192 : Shape := ⟨2, ![16, 8192]⟩
abbrev S8192x4096 : Shape := ⟨2, ![8192, 4096]⟩
abbrev S256x2048 : Shape := ⟨2, ![256, 2048]⟩
abbrev S256x4096 : Shape := ⟨2, ![256, 4096]⟩
abbrev S256x128 : Shape := ⟨2, ![256, 128]⟩
abbrev S16x256 : Shape := ⟨2, ![16, 256]⟩
abbrev S8x256x640 : Shape := ⟨3, ![8, 256, 640]⟩
abbrev S8x1x1 : Shape := ⟨3, ![8, 1, 1]⟩
abbrev S256x256 : Shape := ⟨2, ![256, 256]⟩
abbrev S1x256 : Shape := ⟨2, ![1, 256]⟩
abbrev S256x1 : Shape := ⟨2, ![256, 1]⟩
abbrev S1x1x1 : Shape := ⟨3, ![1, 1, 1]⟩
abbrev S1x1 : Shape := ⟨2, ![1, 1]⟩
abbrev S256 : Shape := ⟨1, ![256]⟩
abbrev S256x512 : Shape := ⟨2, ![256, 512]⟩
abbrev S256x640 : Shape := ⟨2, ![256, 640]⟩
abbrev S1x256x640 : Shape := ⟨3, ![1, 256, 640]⟩
abbrev S1 : Shape := ⟨1, ![1]⟩

abbrev nBuf : Space → Nat
  | .hbm => 7
  | .vmem => 16
  | .smem => 0
  | _ => 0

abbrev bufTy : (tb : Table) → Fin (tcTables nBuf tb) → BufTy
  | .hbm, ⟨0, _⟩ => ⟨S8192x12288, .bf16⟩
  | .hbm, ⟨1, _⟩ => ⟨S8192x16, .f32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S16x8192, .f32⟩
  | .hbm, ⟨6, _⟩ => ⟨S8192x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x128, .f32⟩
  | .local _ .vmem, ⟨9, _⟩ => ⟨S256x128, .f32⟩
  | .local _ .vmem, ⟨10, _⟩ => ⟨S16x256, .f32⟩
  | .local _ .vmem, ⟨11, _⟩ => ⟨S16x256, .f32⟩
  | .local _ .vmem, ⟨12, _⟩ => ⟨S256x4096, .bf16⟩
  | .local _ .vmem, ⟨13, _⟩ => ⟨S256x4096, .bf16⟩
  | .local _ .vmem, ⟨14, _⟩ => ⟨S8x256x640, .f32⟩
  | .local _ .vmem, ⟨15, _⟩ => ⟨S8x1x1, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x12288 : Shape := ⟨2, ![8192, 12288]⟩
abbrev S8192x16 : Shape := ⟨2, ![8192, 16]⟩
abbrev S8192x8192 : Shape := ⟨2, ![8192, 8192]⟩
abbrev S8192x2048 : Shape := ⟨2, ![8192, 2048]⟩
abbrev S8192x4096 : Shape := ⟨2, ![8192, 4096]⟩
abbrev S2x4096x8x256 : Shape := ⟨4, ![2, 4096, 8, 256]⟩
abbrev S2x8x4096x256 : Shape := ⟨4, ![2, 8, 4096, 256]⟩
abbrev S2x4096x8x512 : Shape := ⟨4, ![2, 4096, 8, 512]⟩
abbrev S2x8x4096x512 : Shape := ⟨4, ![2, 8, 4096, 512]⟩
abbrev S2x4096x16 : Shape := ⟨3, ![2, 4096, 16]⟩
abbrev S2x4096x8 : Shape := ⟨3, ![2, 4096, 8]⟩
abbrev S2x8x4096 : Shape := ⟨3, ![2, 8, 4096]⟩
abbrev S2x8x64x64x256 : Shape := ⟨5, ![2, 8, 64, 64, 256]⟩
abbrev S64x2x8x64x256 : Shape := ⟨5, ![64, 2, 8, 64, 256]⟩
abbrev S2x8x64x64x512 : Shape := ⟨5, ![2, 8, 64, 64, 512]⟩
abbrev S64x2x8x64x512 : Shape := ⟨5, ![64, 2, 8, 64, 512]⟩
abbrev S2x8x64x64 : Shape := ⟨4, ![2, 8, 64, 64]⟩
abbrev S64x2x8x64 : Shape := ⟨4, ![64, 2, 8, 64]⟩
abbrev S_ : Shape := ⟨0, ![]⟩
abbrev S64x64 : Shape := ⟨2, ![64, 64]⟩
abbrev S2x8x256x512 : Shape := ⟨4, ![2, 8, 256, 512]⟩
abbrev S2x8x256 : Shape := ⟨3, ![2, 8, 256]⟩
abbrev S2x8 : Shape := ⟨2, ![2, 8]⟩
abbrev S1x2x8x64x256 : Shape := ⟨5, ![1, 2, 8, 64, 256]⟩
abbrev S2x8x64x256 : Shape := ⟨4, ![2, 8, 64, 256]⟩
abbrev S1x2x8x64x512 : Shape := ⟨5, ![1, 2, 8, 64, 512]⟩
abbrev S2x8x64x512 : Shape := ⟨4, ![2, 8, 64, 512]⟩
abbrev S1x2x8x64 : Shape := ⟨4, ![1, 2, 8, 64]⟩
abbrev S2x8x64 : Shape := ⟨3, ![2, 8, 64]⟩
abbrev S2x8x64x1 : Shape := ⟨4, ![2, 8, 64, 1]⟩
abbrev S2x8x1x64 : Shape := ⟨4, ![2, 8, 1, 64]⟩
abbrev S2x8x1 : Shape := ⟨3, ![2, 8, 1]⟩
abbrev S2x8x1x1 : Shape := ⟨4, ![2, 8, 1, 1]⟩
abbrev S2x8x4096x1 : Shape := ⟨4, ![2, 8, 4096, 1]⟩

abbrev nBuf : Space → Nat
  | .hbm => 205
  | .vmem => 0
  | .smem => 0
  | _ => 0

abbrev hbmTy0_0 (i : Nat) : BufTy := match i % 128 with
  | 0 => ⟨S8192x12288, .bf16⟩
  | 1 => ⟨S8192x16, .f32⟩
  | 2 => ⟨S8192x8192, .bf16⟩
  | 3 => ⟨S8192x8192, .f32⟩
  | 4 => ⟨S8192x2048, .f32⟩
  | 5 => ⟨S8192x2048, .f32⟩
  | 6 => ⟨S8192x4096, .f32⟩
  | 7 => ⟨S2x4096x8x256, .f32⟩
  | 8 => ⟨S2x8x4096x256, .f32⟩
  | 9 => ⟨S2x4096x8x256, .f32⟩
  | 10 => ⟨S2x8x4096x256, .f32⟩
  | 11 => ⟨S2x4096x8x512, .f32⟩
  | 12 => ⟨S2x8x4096x512, .f32⟩
  | 13 => ⟨S2x4096x16, .f32⟩
  | 14 => ⟨S2x4096x8, .f32⟩
  | 15 => ⟨S2x8x4096, .f32⟩
  | 16 => ⟨S2x4096x8, .f32⟩
  | 17 => ⟨S2x8x4096, .f32⟩
  | 18 => ⟨S2x8x64x64x256, .f32⟩
  | 19 => ⟨S64x2x8x64x256, .f32⟩
  | 20 => ⟨S2x8x64x64x256, .f32⟩
  | 21 => ⟨S64x2x8x64x256, .f32⟩
  | 22 => ⟨S2x8x64x64x512, .f32⟩
  | 23 => ⟨S64x2x8x64x512, .f32⟩
  | 24 => ⟨S2x8x64x64, .f32⟩
  | 25 => ⟨S64x2x8x64, .f32⟩
  | 26 => ⟨S2x8x64x64, .f32⟩
  | 27 => ⟨S64x2x8x64, .f32⟩
  | 28 => ⟨S_, .i1⟩
  | 29 => ⟨S64x64, .i1⟩
  | 30 => ⟨S64x64, .i32⟩
  | 31 => ⟨S_, .i32⟩
  | 32 => ⟨S64x64, .i32⟩
  | 33 => ⟨S64x64, .i32⟩
  | 34 => ⟨S64x64, .i32⟩
  | 35 => ⟨S64x64, .i1⟩
  | 36 => ⟨S_, .i1⟩
  | 37 => ⟨S64x64, .i1⟩
  | 38 => ⟨S64x64, .i1⟩
  | 39 => ⟨S_, .f32⟩
  | 40 => ⟨S2x8x256x512, .f32⟩
  | 41 => ⟨S_, .f32⟩
  | 42 => ⟨S2x8x256, .f32⟩
  | 43 => ⟨S_, .f32⟩
  | 44 => ⟨S2x8, .f32⟩
  | 45 => ⟨S_, .f32⟩
  | 46 => ⟨S64x2x8x64x512, .f32⟩
  | 47 => ⟨S_, .i32⟩
  | 48 => ⟨S64x2x8x64x256, .f32⟩
  | 49 => ⟨S64x2x8x64x256, .f32⟩
  | 50 => ⟨S64x2x8x64x512, .f32⟩
  | 51 => ⟨S64x2x8x64, .f32⟩
  | 52 => ⟨S64x2x8x64, .f32⟩
  | 53 => ⟨S64x64, .i1⟩
  | 54 => ⟨S_, .i32⟩
  | 55 => ⟨S2x8x256x512, .f32⟩
  | 56 => ⟨S2x8x256, .f32⟩
  | 57 => ⟨S2x8, .f32⟩
  | 58 => ⟨S64x2x8x64x512, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S1x2x8x64x256, .f32⟩
  | 66 => ⟨S2x8x64x256, .f32⟩
  | 67 => ⟨S_, .i32⟩
  | 68 => ⟨S_, .i32⟩
  | 69 => ⟨S_, .i32⟩
  | 70 => ⟨S_, .i32⟩
  | 71 => ⟨S1x2x8x64x256, .f32⟩
  | 72 => ⟨S2x8x64x256, .f32⟩
  | 73 => ⟨S_, .i32⟩
  | 74 => ⟨S_, .i32⟩
  | 75 => ⟨S_, .i32⟩
  | 76 => ⟨S_, .i32⟩
  | 77 => ⟨S1x2x8x64x512, .f32⟩
  | 78 => ⟨S2x8x64x512, .f32⟩
  | 79 => ⟨S_, .i32⟩
  | 80 => ⟨S_, .i32⟩
  | 81 => ⟨S_, .i32⟩
  | 82 => ⟨S1x2x8x64, .f32⟩
  | 83 => ⟨S2x8x64, .f32⟩
  | 84 => ⟨S_, .i32⟩
  | 85 => ⟨S_, .i32⟩
  | 86 => ⟨S_, .i32⟩
  | 87 => ⟨S1x2x8x64, .f32⟩
  | 88 => ⟨S2x8x64, .f32⟩
  | 89 => ⟨S_, .f32⟩
  | 90 => ⟨S_, .f32⟩
  | 91 => ⟨S2x8x64, .f32⟩
  | 92 => ⟨S2x8x64x1, .f32⟩
  | 93 => ⟨S2x8x1x64, .f32⟩
  | 94 => ⟨S2x8x64x64, .f32⟩
  | 95 => ⟨S2x8x64x64, .f32⟩
  | 96 => ⟨S2x8x64x64, .f32⟩
  | 97 => ⟨S2x8x1x64, .f32⟩
  | 98 => ⟨S2x8x64x64, .f32⟩
  | 99 => ⟨S2x8x64x64, .f32⟩
  | 100 => ⟨S_, .f32⟩
  | 101 => ⟨S_, .f32⟩
  | 102 => ⟨S2x8x64x64, .i1⟩
  | 103 => ⟨S2x8x64x64, .f32⟩
  | 104 => ⟨S2x8x64x64, .f32⟩
  | 105 => ⟨S2x8x1, .f32⟩
  | 106 => ⟨S2x8x64, .f32⟩
  | 107 => ⟨S2x8x64, .f32⟩
  | 108 => ⟨S_, .f32⟩
  | 109 => ⟨S2x8x64, .f32⟩
  | 110 => ⟨S2x8x64, .f32⟩
  | 111 => ⟨S2x8x64x1, .f32⟩
  | 112 => ⟨S2x8x64x64, .f32⟩
  | 113 => ⟨S2x8x64x64, .f32⟩
  | 114 => ⟨S2x8x64x64, .f32⟩
  | 115 => ⟨S2x8x64, .f32⟩
  | 116 => ⟨S2x8x64, .f32⟩
  | 117 => ⟨S2x8x64x64, .f32⟩
  | 118 => ⟨S2x8x64x64, .f32⟩
  | 119 => ⟨S2x8x64x1, .f32⟩
  | 120 => ⟨S2x8x64x512, .f32⟩
  | 121 => ⟨S2x8x64x512, .f32⟩
  | 122 => ⟨S2x8x64x512, .f32⟩
  | 123 => ⟨S2x8x64x512, .f32⟩
  | 124 => ⟨S2x8x64x512, .f32⟩
  | 125 => ⟨S2x8x64, .f32⟩
  | 126 => ⟨S2x8x64, .f32⟩
  | 127 => ⟨S_, .f32⟩
  | _ => ⟨S8192x12288, .bf16⟩

abbrev hbmTy0_1 (i : Nat) : BufTy := match i % 128 with
  | 0 => ⟨S2x8x64, .f32⟩
  | 1 => ⟨S2x8x64, .f32⟩
  | 2 => ⟨S2x8x64, .f32⟩
  | 3 => ⟨S2x8x64, .f32⟩
  | 4 => ⟨S2x8x64, .f32⟩
  | 5 => ⟨S2x8x64, .f32⟩
  | 6 => ⟨S2x8x64x1, .f32⟩
  | 7 => ⟨S2x8x64x512, .f32⟩
  | 8 => ⟨S2x8x64x512, .f32⟩
  | 9 => ⟨S2x8x1, .f32⟩
  | 10 => ⟨S2x8, .f32⟩
  | 11 => ⟨S2x8x1, .f32⟩
  | 12 => ⟨S2x8x64, .f32⟩
  | 13 => ⟨S2x8x64, .f32⟩
  | 14 => ⟨S2x8x64, .f32⟩
  | 15 => ⟨S2x8, .f32⟩
  | 16 => ⟨S_, .f32⟩
  | 17 => ⟨S2x8, .f32⟩
  | 18 => ⟨S2x8, .f32⟩
  | 19 => ⟨S2x8x1, .f32⟩
  | 20 => ⟨S2x8x64, .f32⟩
  | 21 => ⟨S2x8x64, .f32⟩
  | 22 => ⟨S2x8x64, .f32⟩
  | 23 => ⟨S2x8x64x1, .f32⟩
  | 24 => ⟨S2x8x64x256, .f32⟩
  | 25 => ⟨S2x8x64x256, .f32⟩
  | 26 => ⟨S2x8, .f32⟩
  | 27 => ⟨S2x8, .f32⟩
  | 28 => ⟨S2x8, .f32⟩
  | 29 => ⟨S2x8x1x1, .f32⟩
  | 30 => ⟨S2x8x256x512, .f32⟩
  | 31 => ⟨S2x8x256x512, .f32⟩
  | 32 => ⟨S2x8x256x512, .f32⟩
  | 33 => ⟨S2x8x256x512, .f32⟩
  | 34 => ⟨S2x8x1, .f32⟩
  | 35 => ⟨S2x8x256, .f32⟩
  | 36 => ⟨S2x8x256, .f32⟩
  | 37 => ⟨S_, .f32⟩
  | 38 => ⟨S2x8x256, .f32⟩
  | 39 => ⟨S2x8x256, .f32⟩
  | 40 => ⟨S1x2x8x64x512, .f32⟩
  | 41 => ⟨S_, .i32⟩
  | 42 => ⟨S_, .i32⟩
  | 43 => ⟨S_, .i32⟩
  | 44 => ⟨S_, .i32⟩
  | 45 => ⟨S64x2x8x64x512, .f32⟩
  | 46 => ⟨S_, .i32⟩
  | 47 => ⟨S_, .i32⟩
  | 48 => ⟨S2x8x64x64x512, .f32⟩
  | 49 => ⟨S2x8x4096x512, .f32⟩
  | 50 => ⟨S8192x4096, .bf16⟩
  | 51 => ⟨S8192x4096, .f32⟩
  | 52 => ⟨S2x8x4096x512, .f32⟩
  | 53 => ⟨S_, .f32⟩
  | 54 => ⟨S2x8x4096, .f32⟩
  | 55 => ⟨S2x8x4096x1, .f32⟩
  | 56 => ⟨S_, .f32⟩
  | 57 => ⟨S2x8x4096x1, .f32⟩
  | 58 => ⟨S2x8x4096x1, .f32⟩
  | 59 => ⟨S_, .f32⟩
  | 60 => ⟨S2x8x4096x1, .f32⟩
  | 61 => ⟨S2x8x4096x1, .f32⟩
  | 62 => ⟨S2x8x4096x1, .f32⟩
  | 63 => ⟨S2x8x4096x512, .f32⟩
  | 64 => ⟨S2x8x4096x512, .f32⟩
  | 65 => ⟨S2x4096x8x512, .f32⟩
  | 66 => ⟨S8192x4096, .f32⟩
  | 67 => ⟨S8192x4096, .f32⟩
  | 68 => ⟨S8192x4096, .f32⟩
  | 69 => ⟨S_, .f32⟩
  | 70 => ⟨S8192x4096, .f32⟩
  | 71 => ⟨S8192x4096, .f32⟩
  | 72 => ⟨S_, .f32⟩
  | 73 => ⟨S8192x4096, .f32⟩
  | 74 => ⟨S8192x4096, .f32⟩
  | 75 => ⟨S8192x4096, .f32⟩
  | 76 => ⟨S8192x4096, .bf16⟩
  | _ => ⟨S8192x12288, .bf16⟩

abbrev hbmTy (i : Nat) : BufTy := match i / 128 with
  | 0 => hbmTy0_0 i
  | 1 => hbmTy0_1 i
  | _ => ⟨S8192x12288, .bf16⟩

abbrev bufTy : (tb : Table) → Fin (tcTables nBuf tb) → BufTy
  | .hbm, ⟨i, _⟩ => hbmTy i
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_c : Ref sig .tc := ⟨.hbm, 28, rfl⟩
abbrev main_v26 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_0 : Ref sig .tc := ⟨.hbm, 36, rfl⟩
abbrev main_call0_v5 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_c_3 : Ref sig .tc := ⟨.hbm, 47, rfl⟩
abbrev main_v32_0 : Ref sig .tc := ⟨.hbm, 48, rfl⟩
abbrev main_v32_1 : Ref sig .tc := ⟨.hbm, 49, rfl⟩
abbrev main_v32_2 : Ref sig .tc := ⟨.hbm, 50, rfl⟩
abbrev main_v32_3 : Ref sig .tc := ⟨.hbm, 51, rfl⟩
abbrev main_v32_4 : Ref sig .tc := ⟨.hbm, 52, rfl⟩
abbrev main_v32_5 : Ref sig .tc := ⟨.hbm, 53, rfl⟩
abbrev main_v32_6 : Ref sig .tc := ⟨.hbm, 54, rfl⟩
abbrev main_v32_7 : Ref sig .tc := ⟨.hbm, 55, rfl⟩
abbrev main_v32_8 : Ref sig .tc := ⟨.hbm, 56, rfl⟩
abbrev main_v32_9 : Ref sig .tc := ⟨.hbm, 57, rfl⟩
abbrev main_v32_10 : Ref sig .tc := ⟨.hbm, 58, rfl⟩
abbrev main_while0c_c_19 : Ref sig .tc := ⟨.hbm, 59, rfl⟩
abbrev main_while0c_v57 : Ref sig .tc := ⟨.hbm, 60, rfl⟩
abbrev main_while0b_call1_c : Ref sig .tc := ⟨.hbm, 61, rfl⟩
abbrev main_while0b_call1_c_0 : Ref sig .tc := ⟨.hbm, 62, rfl⟩
abbrev main_while0b_call1_c_1 : Ref sig .tc := ⟨.hbm, 63, rfl⟩
abbrev main_while0b_call1_c_2 : Ref sig .tc := ⟨.hbm, 64, rfl⟩
abbrev main_while0b_call1_v0 : Ref sig .tc := ⟨.hbm, 65, rfl⟩
abbrev main_while0b_v57 : Ref sig .tc := ⟨.hbm, 66, rfl⟩
abbrev main_while0b_call2_c : Ref sig .tc := ⟨.hbm, 67, rfl⟩
abbrev main_while0b_call2_c_0 : Ref sig .tc := ⟨.hbm, 68, rfl⟩
abbrev main_while0b_call2_c_1 : Ref sig .tc := ⟨.hbm, 69, rfl⟩
abbrev main_while0b_call2_c_2 : Ref sig .tc := ⟨.hbm, 70, rfl⟩
abbrev main_while0b_call2_v0 : Ref sig .tc := ⟨.hbm, 71, rfl⟩
abbrev main_while0b_v58 : Ref sig .tc := ⟨.hbm, 72, rfl⟩
abbrev main_while0b_call3_c : Ref sig .tc := ⟨.hbm, 73, rfl⟩
abbrev main_while0b_call3_c_0 : Ref sig .tc := ⟨.hbm, 74, rfl⟩
abbrev main_while0b_call3_c_1 : Ref sig .tc := ⟨.hbm, 75, rfl⟩
abbrev main_while0b_call3_c_2 : Ref sig .tc := ⟨.hbm, 76, rfl⟩
abbrev main_while0b_call3_v0 : Ref sig .tc := ⟨.hbm, 77, rfl⟩
abbrev main_while0b_v59 : Ref sig .tc := ⟨.hbm, 78, rfl⟩
abbrev main_while0b_call4_c : Ref sig .tc := ⟨.hbm, 79, rfl⟩
abbrev main_while0b_call4_c_0 : Ref sig .tc := ⟨.hbm, 80, rfl⟩
abbrev main_while0b_call4_c_1 : Ref sig .tc := ⟨.hbm, 81, rfl⟩
abbrev main_while0b_call4_v0 : Ref sig .tc := ⟨.hbm, 82, rfl⟩
abbrev main_while0b_v60 : Ref sig .tc := ⟨.hbm, 83, rfl⟩
abbrev main_while0b_call5_c : Ref sig .tc := ⟨.hbm, 84, rfl⟩
abbrev main_while0b_call5_c_0 : Ref sig .tc := ⟨.hbm, 85, rfl⟩
abbrev main_while0b_call5_c_1 : Ref sig .tc := ⟨.hbm, 86, rfl⟩
abbrev main_while0b_call5_v0 : Ref sig .tc := ⟨.hbm, 87, rfl⟩
abbrev main_while0b_v61 : Ref sig .tc := ⟨.hbm, 88, rfl⟩
abbrev main_while0b_call6_call0_cst : Ref sig .tc := ⟨.hbm, 89, rfl⟩
abbrev main_while0b_call6_call0_v0 : Ref sig .tc := ⟨.hbm, 90, rfl⟩
abbrev main_while0b_v62 : Ref sig .tc := ⟨.hbm, 91, rfl⟩
abbrev main_while0b_v63 : Ref sig .tc := ⟨.hbm, 92, rfl⟩
abbrev main_while0b_v64 : Ref sig .tc := ⟨.hbm, 93, rfl⟩
abbrev main_while0b_v65 : Ref sig .tc := ⟨.hbm, 94, rfl⟩
abbrev main_while0b_v66 : Ref sig .tc := ⟨.hbm, 95, rfl⟩
abbrev main_while0b_v67 : Ref sig .tc := ⟨.hbm, 96, rfl⟩
abbrev main_while0b_v68 : Ref sig .tc := ⟨.hbm, 97, rfl⟩
abbrev main_while0b_v69 : Ref sig .tc := ⟨.hbm, 98, rfl⟩
abbrev main_while0b_v70 : Ref sig .tc := ⟨.hbm, 99, rfl⟩
abbrev main_while0b_cst_19 : Ref sig .tc := ⟨.hbm, 100, rfl⟩
abbrev main_while0b_call7_v0 : Ref sig .tc := ⟨.hbm, 101, rfl⟩
abbrev main_while0b_call7_v1 : Ref sig .tc := ⟨.hbm, 102, rfl⟩
abbrev main_while0b_call7_v2 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_cst_20 : Ref sig .tc := ⟨.hbm, 108, rfl⟩
abbrev main_while0b_v75 : Ref sig .tc := ⟨.hbm, 109, rfl⟩
abbrev main_while0b_v76 : Ref sig .tc := ⟨.hbm, 110, rfl⟩
abbrev main_while0b_v77 : Ref sig .tc := ⟨.hbm, 111, rfl⟩
abbrev main_while0b_v78 : Ref sig .tc := ⟨.hbm, 112, rfl⟩
abbrev main_while0b_v79 : Ref sig .tc := ⟨.hbm, 113, rfl⟩
abbrev main_while0b_v80 : Ref sig .tc := ⟨.hbm, 114, rfl⟩
abbrev main_while0b_v81 : Ref sig .tc := ⟨.hbm, 115, rfl⟩
abbrev main_while0b_v82 : Ref sig .tc := ⟨.hbm, 116, rfl⟩
abbrev main_while0b_v83 : Ref sig .tc := ⟨.hbm, 117, rfl⟩
abbrev main_while0b_v84 : Ref sig .tc := ⟨.hbm, 118, rfl⟩
abbrev main_while0b_v85 : Ref sig .tc := ⟨.hbm, 119, rfl⟩
abbrev main_while0b_v86 : Ref sig .tc := ⟨.hbm, 120, rfl⟩
abbrev main_while0b_v87 : Ref sig .tc := ⟨.hbm, 121, rfl⟩
abbrev main_while0b_v88 : Ref sig .tc := ⟨.hbm, 122, rfl⟩
abbrev main_while0b_v89 : Ref sig .tc := ⟨.hbm, 123, rfl⟩
abbrev main_while0b_v90 : Ref sig .tc := ⟨.hbm, 124, rfl⟩
abbrev main_while0b_v91 : Ref sig .tc := ⟨.hbm, 125, rfl⟩
abbrev main_while0b_v92 : Ref sig .tc := ⟨.hbm, 126, rfl⟩
abbrev main_while0b_cst_21 : Ref sig .tc := ⟨.hbm, 127, rfl⟩
abbrev main_while0b_v93 : Ref sig .tc := ⟨.hbm, 128, rfl⟩
abbrev main_while0b_v94 : Ref sig .tc := ⟨.hbm, 129, rfl⟩
abbrev main_while0b_v95 : Ref sig .tc := ⟨.hbm, 130, rfl⟩
abbrev main_while0b_v96 : Ref sig .tc := ⟨.hbm, 131, rfl⟩
abbrev main_while0b_v97 : Ref sig .tc := ⟨.hbm, 132, rfl⟩
abbrev main_while0b_v98 : Ref sig .tc := ⟨.hbm, 133, rfl⟩
abbrev main_while0b_v99 : Ref sig .tc := ⟨.hbm, 134, rfl⟩
abbrev main_while0b_v100 : Ref sig .tc := ⟨.hbm, 135, rfl⟩
abbrev main_while0b_v101 : Ref sig .tc := ⟨.hbm, 136, rfl⟩
abbrev main_while0b_v102 : Ref sig .tc := ⟨.hbm, 137, rfl⟩
abbrev main_while0b_v103 : Ref sig .tc := ⟨.hbm, 138, rfl⟩
abbrev main_while0b_v104 : Ref sig .tc := ⟨.hbm, 139, rfl⟩
abbrev main_while0b_v105 : Ref sig .tc := ⟨.hbm, 140, rfl⟩
abbrev main_while0b_v106 : Ref sig .tc := ⟨.hbm, 141, rfl⟩
abbrev main_while0b_v107 : Ref sig .tc := ⟨.hbm, 142, rfl⟩
abbrev main_while0b_v108 : Ref sig .tc := ⟨.hbm, 143, rfl⟩
abbrev main_while0b_cst_22 : Ref sig .tc := ⟨.hbm, 144, rfl⟩
abbrev main_while0b_v109 : Ref sig .tc := ⟨.hbm, 145, rfl⟩
abbrev main_while0b_v110 : Ref sig .tc := ⟨.hbm, 146, rfl⟩
abbrev main_while0b_v111 : Ref sig .tc := ⟨.hbm, 147, rfl⟩
abbrev main_while0b_v112 : Ref sig .tc := ⟨.hbm, 148, rfl⟩
abbrev main_while0b_v113 : Ref sig .tc := ⟨.hbm, 149, rfl⟩
abbrev main_while0b_v114 : Ref sig .tc := ⟨.hbm, 150, rfl⟩
abbrev main_while0b_v115 : Ref sig .tc := ⟨.hbm, 151, rfl⟩
abbrev main_while0b_v116 : Ref sig .tc := ⟨.hbm, 152, rfl⟩
abbrev main_while0b_v117 : Ref sig .tc := ⟨.hbm, 153, rfl⟩
abbrev main_while0b_v118 : Ref sig .tc := ⟨.hbm, 154, rfl⟩
abbrev main_while0b_v119 : Ref sig .tc := ⟨.hbm, 155, rfl⟩
abbrev main_while0b_v120 : Ref sig .tc := ⟨.hbm, 156, rfl⟩
abbrev main_while0b_v121 : Ref sig .tc := ⟨.hbm, 157, rfl⟩
abbrev main_while0b_v122 : Ref sig .tc := ⟨.hbm, 158, rfl⟩
abbrev main_while0b_v123 : Ref sig .tc := ⟨.hbm, 159, rfl⟩
abbrev main_while0b_v124 : Ref sig .tc := ⟨.hbm, 160, rfl⟩
abbrev main_while0b_v125 : Ref sig .tc := ⟨.hbm, 161, rfl⟩
abbrev main_while0b_v126 : Ref sig .tc := ⟨.hbm, 162, rfl⟩
abbrev main_while0b_v127 : Ref sig .tc := ⟨.hbm, 163, rfl⟩
abbrev main_while0b_v128 : Ref sig .tc := ⟨.hbm, 164, rfl⟩
abbrev main_while0b_cst_23 : Ref sig .tc := ⟨.hbm, 165, rfl⟩
abbrev main_while0b_v129 : Ref sig .tc := ⟨.hbm, 166, rfl⟩
abbrev main_while0b_v130 : Ref sig .tc := ⟨.hbm, 167, rfl⟩
abbrev main_while0b_call8_v0 : Ref sig .tc := ⟨.hbm, 168, rfl⟩
abbrev main_while0b_call8_c : Ref sig .tc := ⟨.hbm, 169, rfl⟩
abbrev main_while0b_call8_c_0 : Ref sig .tc := ⟨.hbm, 170, rfl⟩
abbrev main_while0b_call8_c_1 : Ref sig .tc := ⟨.hbm, 171, rfl⟩
abbrev main_while0b_call8_c_2 : Ref sig .tc := ⟨.hbm, 172, rfl⟩
abbrev main_while0b_v131 : Ref sig .tc := ⟨.hbm, 173, rfl⟩
abbrev main_while0b_c_24 : Ref sig .tc := ⟨.hbm, 174, rfl⟩
abbrev main_while0b_v132 : Ref sig .tc := ⟨.hbm, 175, rfl⟩
abbrev main_v33 : Ref sig .tc := ⟨.hbm, 176, rfl⟩
abbrev main_v34 : Ref sig .tc := ⟨.hbm, 177, rfl⟩
abbrev main_v35 : Ref sig .tc := ⟨.hbm, 178, rfl⟩
abbrev main_v36 : Ref sig .tc := ⟨.hbm, 179, rfl⟩
abbrev main_v37 : Ref sig .tc := ⟨.hbm, 180, rfl⟩
abbrev main_cst_4 : Ref sig .tc := ⟨.hbm, 181, rfl⟩
abbrev main_v38 : Ref sig .tc := ⟨.hbm, 182, rfl⟩
abbrev main_v39 : Ref sig .tc := ⟨.hbm, 183, rfl⟩
abbrev main_cst_5 : Ref sig .tc := ⟨.hbm, 184, rfl⟩
abbrev main_v40 : Ref sig .tc := ⟨.hbm, 185, rfl⟩
abbrev main_v41 : Ref sig .tc := ⟨.hbm, 186, rfl⟩
abbrev main_cst_6 : Ref sig .tc := ⟨.hbm, 187, rfl⟩
abbrev main_v42 : Ref sig .tc := ⟨.hbm, 188, rfl⟩
abbrev main_v43 : Ref sig .tc := ⟨.hbm, 189, rfl⟩
abbrev main_v44 : Ref sig .tc := ⟨.hbm, 190, rfl⟩
abbrev main_v45 : Ref sig .tc := ⟨.hbm, 191, rfl⟩
abbrev main_v46 : Ref sig .tc := ⟨.hbm, 192, rfl⟩
abbrev main_v47 : Ref sig .tc := ⟨.hbm, 193, rfl⟩
abbrev main_v48 : Ref sig .tc := ⟨.hbm, 194, rfl⟩
abbrev main_v49 : Ref sig .tc := ⟨.hbm, 195, rfl⟩
abbrev main_v50 : Ref sig .tc := ⟨.hbm, 196, rfl⟩
abbrev main_cst_7 : Ref sig .tc := ⟨.hbm, 197, rfl⟩
abbrev main_v51 : Ref sig .tc := ⟨.hbm, 198, rfl⟩
abbrev main_v52 : Ref sig .tc := ⟨.hbm, 199, rfl⟩
abbrev main_cst_8 : Ref sig .tc := ⟨.hbm, 200, rfl⟩
abbrev main_v53 : Ref sig .tc := ⟨.hbm, 201, rfl⟩
abbrev main_v54 : Ref sig .tc := ⟨.hbm, 202, rfl⟩
abbrev main_v55 : Ref sig .tc := ⟨.hbm, 203, rfl⟩
abbrev main_v56 : Ref sig .tc := ⟨.hbm, 204, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x4096 : Shape := ⟨2, ![8192, 4096]⟩
abbrev S2x4096x16384 : Shape := ⟨3, ![2, 4096, 16384]⟩
abbrev S8192x16384 : Shape := ⟨2, ![8192, 16384]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S8192x16384, .bf16⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .bf16⟩
  | .local _ .vmem, ⟨4, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x4096 : Shape := ⟨2, ![8192, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S8192x16384 : Shape := ⟨2, ![8192, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S8192x4096, .f32⟩
  | .hbm, ⟨3, _⟩ => ⟨S1x4096x16384, .f32⟩
  | .hbm, ⟨4, _⟩ => ⟨S4096x16384, .f32⟩
  | .hbm, ⟨5, _⟩ => ⟨S8192x16384, .f32⟩
  | .hbm, ⟨6, _⟩ => ⟨S_, .f32⟩
  | .hbm, ⟨7, _⟩ => ⟨S8192x16384, .f32⟩
  | .hbm, ⟨8, _⟩ => ⟨S8192x16384, .f32⟩
  | .hbm, ⟨9, _⟩ => ⟨S8192x16384, .f32⟩
  | .hbm, ⟨10, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S8192x16384 : Shape := ⟨2, ![8192, 16384]⟩
abbrev S2x16384x4096 : Shape := ⟨3, ![2, 16384, 4096]⟩
abbrev S8192x4096 : Shape := ⟨2, ![8192, 4096]⟩
abbrev S2048x2048 : Shape := ⟨2, ![2048, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x16384, .bf16⟩
  | .hbm, ⟨1, _⟩ => ⟨S2x16384x4096, .f32⟩
  | .hbm, ⟨2, _⟩ => ⟨S8192x4096, .f32⟩
  | .hbm, ⟨3, _⟩ => ⟨S8192x4096, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c4_i32 : BitVec 32 := 4#32
  let v1 : BitVec 32 := Scalar.divsi arg2 c4_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  ![v18.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference3Ideal.lean ====
abbrev S8192x16384 : Shape := ⟨2, ![8192, 16384]⟩
abbrev S2x16384x4096 : Shape := ⟨3, ![2, 16384, 4096]⟩
abbrev S8192x4096 : Shape := ⟨2, ![8192, 4096]⟩
abbrev S1x16384x4096 : Shape := ⟨3, ![1, 16384, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S2x16384x4096, .f32⟩
  | .hbm, ⟨2, _⟩ => ⟨S8192x4096, .f32⟩
  | .hbm, ⟨3, _⟩ => ⟨S8192x16384, .f32⟩
  | .hbm, ⟨4, _⟩ => ⟨S1x16384x4096, .f32⟩
  | .hbm, ⟨5, _⟩ => ⟨S16384x4096, .f32⟩
  | .hbm, ⟨6, _⟩ => ⟨S8192x4096, .f32⟩
  | .hbm, ⟨7, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x4096 : Shape := ⟨2, ![8192, 4096]⟩
abbrev S1x4096x12304 : Shape := ⟨3, ![1, 4096, 12304]⟩
abbrev S1x12304x4096 : Shape := ⟨3, ![1, 12304, 4096]⟩
abbrev S8192x12288 : Shape := ⟨2, ![8192, 12288]⟩
abbrev S2048x4096 : Shape := ⟨2, ![2048, 4096]⟩
abbrev S1x512x4096 : Shape := ⟨3, ![1, 512, 4096]⟩
abbrev S2048x512 : Shape := ⟨2, ![2048, 512]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1x4096x12304, .f32⟩
  | .hbm, ⟨2, _⟩ => ⟨S1x12304x4096, .f32⟩
  | .hbm, ⟨3, _⟩ => ⟨S8192x12288, .bf16⟩
  | .local _ .vmem, ⟨0, _⟩ => ⟨S2048x4096, .bf16⟩
  | .local _ .vmem, ⟨1, _⟩ => ⟨S1x512x4096, .f32⟩
  | .local _ .vmem, ⟨2, _⟩ => ⟨S1x512x4096, .f32⟩
  | .local _ .vmem, ⟨3, _⟩ => ⟨S2048x512, .bf16⟩
  | .local _ .vmem, ⟨4, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S1x4096x12304 : Shape := ⟨3, ![1, 4096, 12304]⟩
abbrev S4096x12304 : Shape := ⟨2, ![4096, 12304]⟩
abbrev S8192x12304 : Shape := ⟨2, ![8192, 12304]⟩
abbrev S8192x2048 : Shape := ⟨2, ![8192, 2048]⟩
abbrev S8192x16 : Shape := ⟨2, ![8192, 16]⟩
abbrev S_ : Shape := ⟨0, ![]⟩
abbrev S8192x12288 : Shape := ⟨2, ![8192, 12288]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x12304, .f32⟩
  | .hbm, ⟨2, _⟩ => ⟨S8192x4096, .f32⟩
  | .hbm, ⟨3, _⟩ => ⟨S4096x12304, .f32⟩
  | .hbm, ⟨4, _⟩ => ⟨S8192x12304, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .f32⟩
  | .hbm, ⟨9, _⟩ => ⟨S8192x16, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x12288, .f32⟩
  | .hbm, ⟨14, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S8192x4096 : Shape := ⟨2, ![8192, 4096]⟩
abbrev S1x4096x4096 : Shape := ⟨3, ![1, 4096, 4096]⟩
abbrev S1x4096 : Shape := ⟨2, ![1, 4096]⟩
abbrev S4096 : Shape := ⟨1, ![4096]⟩
abbrev S4096x1 : Shape := ⟨2, ![4096, 1]⟩
abbrev S4096x128 : Shape := ⟨2, ![4096, 128]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S1x4096, .f32⟩
  | .hbm, ⟨4, _⟩ => ⟨S4096, .f32⟩
  | .hbm, ⟨5, _⟩ => ⟨S4096x1, .f32⟩
  | .hbm, ⟨6, _⟩ => ⟨S4096x128, .f32⟩
  | .hbm, ⟨7, _⟩ => ⟨S8192x4096, .f32⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S4096x128, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S8192x4096 : Shape := ⟨2, ![8192, 4096]⟩
abbrev S1x4096x4096 : Shape := ⟨3, ![1, 4096, 4096]⟩
abbrev S1x4096 : Shape := ⟨2, ![1, 4096]⟩
abbrev S4096 : Shape := ⟨1, ![4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S1x4096, .f32⟩
  | .hbm, ⟨4, _⟩ => ⟨S8192x4096, .f32⟩
  | .hbm, ⟨5, _⟩ => ⟨S4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S4096x4096, .f32⟩
  | .hbm, ⟨10, _⟩ => ⟨S8192x4096, .f32⟩
  | .hbm, ⟨11, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S8192x4096 : Shape := ⟨2, ![8192, 4096]⟩
abbrev S1x4096x4096 : Shape := ⟨3, ![1, 4096, 4096]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S8192x4096, .f32⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x4096 : Shape := ⟨2, ![8192, 4096]⟩
abbrev S1x4096x4192 : Shape := ⟨3, ![1, 4096, 4192]⟩
abbrev S2x4096 : Shape := ⟨2, ![2, 4096]⟩
abbrev S1x4192x4096 : Shape := ⟨3, ![1, 4192, 4096]⟩
abbrev S1x4096 : Shape := ⟨2, ![1, 4096]⟩
abbrev S4096 : Shape := ⟨1, ![4096]⟩
abbrev S2048x4096 : Shape := ⟨2, ![2048, 4096]⟩
abbrev S1x512x4096 : Shape := ⟨3, ![1, 512, 4096]⟩
abbrev S2048x512 : Shape := ⟨2, ![2048, 512]⟩
abbrev S512x4096 : Shape := ⟨2, ![512, 4096]⟩
abbrev S2048x128 : Shape := ⟨2, ![2048, 128]⟩
abbrev S2048 : Shape := ⟨1, ![2048]⟩
abbrev S2048x1 : Shape := ⟨2, ![2048, 1]⟩

abbrev nBuf : Space → Nat
  | .hbm => 8
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x4192, .f32⟩
  | .hbm, ⟨2, _⟩ => ⟨S2x4096, .f32⟩
  | .hbm, ⟨3, _⟩ => ⟨S1x4192x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8192x4096, .bf16⟩
  | .local _ .vmem, ⟨0, _⟩ => ⟨S2048x4096, .bf16⟩
  | .local _ .vmem, ⟨1, _⟩ => ⟨S1x512x4096, .f32⟩
  | .local _ .vmem, ⟨2, _⟩ => ⟨S1x512x4096, .f32⟩
  | .local _ .vmem, ⟨3, _⟩ => ⟨S1x4096, .f32⟩
  | .local _ .vmem, ⟨4, _⟩ => ⟨S2048x512, .bf16⟩
  | .local _ .vmem, ⟨5, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x4096 : Shape := ⟨2, ![8192, 4096]⟩
abbrev S1x4096x4192 : Shape := ⟨3, ![1, 4096, 4192]⟩
abbrev S2x4096 : Shape := ⟨2, ![2, 4096]⟩
abbrev S1x4096 : Shape := ⟨2, ![1, 4096]⟩
abbrev S4096 : Shape := ⟨1, ![4096]⟩
abbrev S4096x4192 : Shape := ⟨2, ![4096, 4192]⟩
abbrev S8192x4192 : Shape := ⟨2, ![8192, 4192]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4192, .f32⟩
  | .hbm, ⟨2, _⟩ => ⟨S2x4096, .f32⟩
  | .hbm, ⟨3, _⟩ => ⟨S8192x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S4096x4192, .f32⟩
  | .hbm, ⟨10, _⟩ => ⟨S8192x4192, .f32⟩
  | .hbm, ⟨11, _⟩ => ⟨S8192x4096, .f32⟩
  | .hbm, ⟨12, _⟩ => ⟨S8192x32x128, .f32⟩
  | .hbm, ⟨13, _⟩ => ⟨S8192x32x128, .f32⟩
  | .hbm, ⟨14, _⟩ => ⟨S_, .f32⟩
  | .hbm, ⟨15, _⟩ => ⟨S8192x32, .f32⟩
  | .hbm, ⟨16, _⟩ => ⟨S8192x32x1, .f32⟩
  | .hbm, ⟨17, _⟩ => ⟨S_, .f32⟩
  | .hbm, ⟨18, _⟩ => ⟨S8192x32x1, .f32⟩
  | .hbm, ⟨19, _⟩ => ⟨S8192x32x1, .f32⟩
  | .hbm, ⟨20, _⟩ => ⟨S_, .f32⟩
  | .hbm, ⟨21, _⟩ => ⟨S8192x32x1, .f32⟩
  | .hbm, ⟨22, _⟩ => ⟨S8192x32x1, .f32⟩
  | .hbm, ⟨23, _⟩ => ⟨S8192x32x1, .f32⟩
  | .hbm, ⟨24, _⟩ => ⟨S8192x32x128, .f32⟩
  | .hbm, ⟨25, _⟩ => ⟨S8192x32x128, .f32⟩
  | .hbm, ⟨26, _⟩ => ⟨S8192x4096, .f32⟩
  | .hbm, ⟨27, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel8.lean ====
abbrev S4096x3072 : Shape := ⟨2, ![4096, 3072]⟩
abbrev S8192x4096 : Shape := ⟨2, ![8192, 4096]⟩
abbrev S4096 : Shape := ⟨1, ![4096]⟩
abbrev S4096x512 : Shape := ⟨2, ![4096, 512]⟩
abbrev S4096x1024 : Shape := ⟨2, ![4096, 1024]⟩
abbrev S1024x4096 : Shape := ⟨2, ![1024, 4096]⟩
abbrev S1x4096 : Shape := ⟨2, ![1, 4096]⟩
abbrev S1024x8192 : Shape := ⟨2, ![1024, 8192]⟩
abbrev S512x4096 : Shape := ⟨2, ![512, 4096]⟩
abbrev S512x1024 : Shape := ⟨2, ![512, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4096x3072, .f32⟩
  | .hbm, ⟨1, _⟩ => ⟨S8192x4096, .bf16⟩
  | .hbm, ⟨2, _⟩ => ⟨S4096, .f32⟩
  | .hbm, ⟨3, _⟩ => ⟨S4096x512, .f32⟩
  | .hbm, ⟨4, _⟩ => ⟨S4096x512, .f32⟩
  | .hbm, ⟨5, _⟩ => ⟨S4096x1024, .f32⟩
  | .hbm, ⟨6, _⟩ => ⟨S1024x4096, .f32⟩
  | .hbm, ⟨7, _⟩ => ⟨S1x4096, .f32⟩
  | .hbm, ⟨8, _⟩ => ⟨S1024x8192, .bf16⟩
  | .local _ .vmem, ⟨0, _⟩ => ⟨S512x4096, .f32⟩
  | .local _ .vmem, ⟨1, _⟩ => ⟨S1024x4096, .bf16⟩
  | .local _ .vmem, ⟨2, _⟩ => ⟨S1024x4096, .bf16⟩
  | .local _ .vmem, ⟨3, _⟩ => ⟨S1x4096, .f32⟩
  | .local _ .vmem, ⟨4, _⟩ => ⟨S512x1024, .bf16⟩
  | .local _ .vmem, ⟨5, _⟩ => ⟨S512x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x3072 : Shape := ⟨2, ![4096, 3072]⟩
abbrev S8192x4096 : Shape := ⟨2, ![8192, 4096]⟩
abbrev S4096 : Shape := ⟨1, ![4096]⟩
abbrev S1x4096 : Shape := ⟨2, ![1, 4096]⟩
abbrev S8192x3072 : Shape := ⟨2, ![8192, 3072]⟩
abbrev S8192x6x512 : Shape := ⟨3, ![8192, 6, 512]⟩
abbrev S8192x1x512 : Shape := ⟨3, ![8192, 1, 512]⟩
abbrev S8192x512 : Shape := ⟨2, ![8192, 512]⟩
abbrev S512x8192 : Shape := ⟨2, ![512, 8192]⟩
abbrev S1024x8192 : Shape := ⟨2, ![1024, 8192]⟩

abbrev nBuf : Space → Nat
  | .hbm => 17
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S8192x4096, .bf16⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S8192x3072, .f32⟩
  | .hbm, ⟨8, _⟩ => ⟨S8192x6x512, .f32⟩
  | .hbm, ⟨9, _⟩ => ⟨S8192x1x512, .f32⟩
  | .hbm, ⟨10, _⟩ => ⟨S8192x512, .f32⟩
  | .hbm, ⟨11, _⟩ => ⟨S512x8192, .f32⟩
  | .hbm, ⟨12, _⟩ => ⟨S8192x1x512, .f32⟩
  | .hbm, ⟨13, _⟩ => ⟨S8192x512, .f32⟩
  | .hbm, ⟨14, _⟩ => ⟨S512x8192, .f32⟩
  | .hbm, ⟨15, _⟩ => ⟨S1024x8192, .f32⟩
  | .hbm, ⟨16, _⟩ => ⟨S1024x8192, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel9.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S1x4096x4192 : Shape := ⟨3, ![1, 4096, 4192]⟩
abbrev S8192x4096 : Shape := ⟨2, ![8192, 4096]⟩
abbrev S2x4096 : Shape := ⟨2, ![2, 4096]⟩
abbrev S0 : Shape := ⟨1, ![0]⟩
abbrev S4096x4192 : Shape := ⟨2, ![4096, 4192]⟩
abbrev S4096x96 : Shape := ⟨2, ![4096, 96]⟩
abbrev S4096x3x4x8 : Shape := ⟨4, ![4096, 3, 4, 8]⟩
abbrev S4x3x8x4096 : Shape := ⟨4, ![4, 3, 8, 4096]⟩
abbrev S4x24x4096 : Shape := ⟨3, ![4, 24, 4096]⟩
abbrev S_ : Shape := ⟨0, ![]⟩
abbrev S96x4096 : Shape := ⟨2, ![96, 4096]⟩
abbrev S1x4096 : Shape := ⟨2, ![1, 4096]⟩
abbrev S4096 : Shape := ⟨1, ![4096]⟩
abbrev S96x8192 : Shape := ⟨2, ![96, 8192]⟩
abbrev S1024x4096 : Shape := ⟨2, ![1024, 4096]⟩
abbrev S96x1024 : Shape := ⟨2, ![96, 1024]⟩

abbrev nBuf : Space → Nat
  | .hbm => 17
  | .vmem => 6
  | .smem => 0
  | _ => 0

abbrev bufTy : (tb : Table) → Fin (tcTables nBuf tb) → BufTy
  | .hbm, ⟨0, _⟩ => ⟨S1x4096x4192, .f32⟩
  | .hbm, ⟨1, _⟩ => ⟨S8192x4096, .bf16⟩
  | .hbm, ⟨2, _⟩ => ⟨S2x4096, .f32⟩
  | .hbm, ⟨3, _⟩ => ⟨S0, .i32⟩
  | .hbm, ⟨4, _⟩ => ⟨S4096x4192, .f32⟩
  | .hbm, ⟨5, _⟩ => ⟨S4096x96, .f32⟩
  | .hbm, ⟨6, _⟩ => ⟨S4096x3x4x8, .f32⟩
  | .hbm, ⟨7, _⟩ => ⟨S4x3x8x4096, .f32⟩
  | .hbm, ⟨8, _⟩ => ⟨S4x24x4096, .f32⟩
  | .hbm, ⟨9, _⟩ => ⟨S_, .f32⟩
  | .hbm, ⟨10, _⟩ => ⟨S4x24x4096, .f32⟩
  | .hbm, ⟨11, _⟩ => ⟨S4x24x4096, .f32⟩
  | .hbm, ⟨12, _⟩ => ⟨S96x4096, .f32⟩
  | .hbm, ⟨13, _⟩ => ⟨S1x4096, .f32⟩
  | .hbm, ⟨14, _⟩ => ⟨S4096, .f32⟩
  | .hbm, ⟨15, _⟩ => ⟨S1x4096, .f32⟩
  | .hbm, ⟨16, _⟩ => ⟨S96x8192, .f32⟩
  | .local _ .vmem, ⟨0, _⟩ => ⟨S96x4096, .f32⟩
  | .local _ .vmem, ⟨1, _⟩ => ⟨S1024x4096, .bf16⟩
  | .local _ .vmem, ⟨2, _⟩ => ⟨S1024x4096, .bf16⟩
  | .local _ .vmem, ⟨3, _⟩ => ⟨S1x4096, .f32⟩
  | .local _ .vmem, ⟨4, _⟩ => ⟨S96x1024, .f32⟩
  | .local _ .vmem, ⟨5, _⟩ => ⟨S96x1024, .f32⟩
  | _, _ => ⟨S1x4096x4192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S96x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S1x4096x4192 : Shape := ⟨3, ![1, 4096, 4192]⟩
abbrev S8192x4096 : Shape := ⟨2, ![8192, 4096]⟩
abbrev S2x4096 : Shape := ⟨2, ![2, 4096]⟩
abbrev S1x4096 : Shape := ⟨2, ![1, 4096]⟩
abbrev S4096 : Shape := ⟨1, ![4096]⟩
abbrev S4096x4192 : Shape := ⟨2, ![4096, 4192]⟩
abbrev S8192x4192 : Shape := ⟨2, ![8192, 4192]⟩
abbrev S8192x96 : Shape := ⟨2, ![8192, 96]⟩
abbrev S_ : Shape := ⟨0, ![]⟩
abbrev S8192x3x4x8 : Shape := ⟨4, ![8192, 3, 4, 8]⟩
abbrev S4x3x8x8192 : Shape := ⟨4, ![4, 3, 8, 8192]⟩
abbrev S96x8192 : Shape := ⟨2, ![96, 8192]⟩

abbrev nBuf : Space → Nat
  | .hbm => 23
  | .vmem => 0
  | .smem => 0
  | _ => 0

abbrev bufTy : (tb : Table) → Fin (tcTables nBuf tb) → BufTy
  | .hbm, ⟨0, _⟩ => ⟨S1x4096x4192, .f32⟩
  | .hbm, ⟨1, _⟩ => ⟨S8192x4096, .bf16⟩
  | .hbm, ⟨2, _⟩ => ⟨S2x4096, .f32⟩
  | .hbm, ⟨3, _⟩ => ⟨S8192x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S4096x4192, .f32⟩
  | .hbm, ⟨10, _⟩ => ⟨S8192x4192, .f32⟩
  | .hbm, ⟨11, _⟩ => ⟨S8192x96, .f32⟩
  | .hbm, ⟨12, _⟩ => ⟨S8192x96, .f32⟩
  | .hbm, ⟨13, _⟩ => ⟨S8192x96, .f32⟩
  | .hbm, ⟨14, _⟩ => ⟨S_, .f32⟩
  | .hbm, ⟨15, _⟩ => ⟨S8192x96, .f32⟩
  | .hbm, ⟨16, _⟩ => ⟨S8192x96, .f32⟩
  | .hbm, ⟨17, _⟩ => ⟨S_, .f32⟩
  | .hbm, ⟨18, _⟩ => ⟨S8192x96, .f32⟩
  | .hbm, ⟨19, _⟩ => ⟨S8192x96, .f32⟩
  | .hbm, ⟨20, _⟩ => ⟨S8192x3x4x8, .f32⟩
  | .hbm, ⟨21, _⟩ => ⟨S4x3x8x8192, .f32⟩
  | .hbm, ⟨22, _⟩ => ⟨S96x8192, .f32⟩
  | _, _ => ⟨S1x4096x4192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel11.lean ====
abbrev S8192x4096 : Shape := ⟨2, ![8192, 4096]⟩
abbrev S1x4096x12304 : Shape := ⟨3, ![1, 4096, 12304]⟩
abbrev S1x16 : Shape := ⟨2, ![1, 16]⟩
abbrev S1x4096x16 : Shape := ⟨3, ![1, 4096, 16]⟩
abbrev S4096x16 : Shape := ⟨2, ![4096, 16]⟩
abbrev S16 : Shape := ⟨1, ![16]⟩
abbrev S_ : Shape := ⟨0, ![]⟩
abbrev S4096x128 : Shape := ⟨2, ![4096, 128]⟩
abbrev S1 : Shape := ⟨1, ![1]⟩
abbrev S16x4096 : Shape := ⟨2, ![16, 4096]⟩
abbrev S1x128 : Shape := ⟨2, ![1, 128]⟩
abbrev S2 : Shape := ⟨1, ![2]⟩
abbrev S16x1 : Shape := ⟨2, ![16, 1]⟩
abbrev S8192x128 : Shape := ⟨2, ![8192, 128]⟩
abbrev S16x8192 : Shape := ⟨2, ![16, 8192]⟩
abbrev S512x4096 : Shape := ⟨2, ![512, 4096]⟩
abbrev S512x128 : Shape := ⟨2, ![512, 128]⟩
abbrev S16x512 : Shape := ⟨2, ![16, 512]⟩

abbrev nBuf : Space → Nat
  | .hbm => 25
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x12304, .f32⟩
  | .hbm, ⟨2, _⟩ => ⟨S1x16, .f32⟩
  | .hbm, ⟨3, _⟩ => ⟨S1x4096x16, .f32⟩
  | .hbm, ⟨4, _⟩ => ⟨S4096x16, .f32⟩
  | .hbm, ⟨5, _⟩ => ⟨S16, .f32⟩
  | .hbm, ⟨6, _⟩ => ⟨S_, .f32⟩
  | .hbm, ⟨7, _⟩ => ⟨S4096x128, .f32⟩
  | .hbm, ⟨8, _⟩ => ⟨S_, .i32⟩
  | .hbm, ⟨9, _⟩ => ⟨S1, .i32⟩
  | .hbm, ⟨10, _⟩ => ⟨S4096x128, .f32⟩
  | .hbm, ⟨11, _⟩ => ⟨S4096x128, .bf16⟩
  | .hbm, ⟨12, _⟩ => ⟨S16x4096, .f32⟩
  | .hbm, ⟨13, _⟩ => ⟨S16x4096, .bf16⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S16x1, .f32⟩
  | .hbm, ⟨23, _⟩ => ⟨S8192x128, .f32⟩
  | .hbm, ⟨24, _⟩ => ⟨S16x8192, .f32⟩
  | .local _ .vmem, ⟨0, _⟩ => ⟨S512x4096, .bf16⟩
  | .local _ .vmem, ⟨1, _⟩ => ⟨S512x4096, .bf16⟩
  | .local _ .vmem, ⟨2, _⟩ => ⟨S4096x128, .bf16⟩
  | .local _ .vmem, ⟨3, _⟩ => ⟨S16x4096, .bf16⟩
  | .local _ .vmem, ⟨4, _⟩ => ⟨S1x128, .f32⟩
  | .local _ .vmem, ⟨5, _⟩ => ⟨S16x1, .f32⟩
  | .local _ .vmem, ⟨6, _⟩ => ⟨S512x128, .f32⟩
  | .local _ .vmem, ⟨7, _⟩ => ⟨S512x128, .f32⟩
  | .local _ .vmem, ⟨8, _⟩ => ⟨S16x512, .f32⟩
  | .local _ .vmem, ⟨9, _⟩ => ⟨S16x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S8192x4096 : Shape := ⟨2, ![8192, 4096]⟩
abbrev S1x4096x12304 : Shape := ⟨3, ![1, 4096, 12304]⟩
abbrev S1x16 : Shape := ⟨2, ![1, 16]⟩
abbrev S4096x12304 : Shape := ⟨2, ![4096, 12304]⟩
abbrev S8192x12304 : Shape := ⟨2, ![8192, 12304]⟩
abbrev S8192x16 : Shape := ⟨2, ![8192, 16]⟩
abbrev S16 : Shape := ⟨1, ![16]⟩
abbrev S_ : Shape := ⟨0, ![]⟩
abbrev S8192x128 : Shape := ⟨2, ![8192, 128]⟩
abbrev S8192x8 : Shape := ⟨2, ![8192, 8]⟩
abbrev S8192x120 : Shape := ⟨2, ![8192, 120]⟩
abbrev S16x8192 : Shape := ⟨2, ![16, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x12304, .f32⟩
  | .hbm, ⟨2, _⟩ => ⟨S1x16, .f32⟩
  | .hbm, ⟨3, _⟩ => ⟨S8192x4096, .f32⟩
  | .hbm, ⟨4, _⟩ => ⟨S4096x12304, .f32⟩
  | .hbm, ⟨5, _⟩ => ⟨S8192x12304, .f32⟩
  | .hbm, ⟨6, _⟩ => ⟨S8192x16, .f32⟩
  | .hbm, ⟨7, _⟩ => ⟨S16, .f32⟩
  | .hbm, ⟨8, _⟩ => ⟨S1x16, .f32⟩
  | .hbm, ⟨9, _⟩ => ⟨S8192x16, .f32⟩
  | .hbm, ⟨10, _⟩ => ⟨S8192x16, .f32⟩
  | .hbm, ⟨11, _⟩ => ⟨S_, .i32⟩
  | .hbm, ⟨12, _⟩ => ⟨S_, .f32⟩
  | .hbm, ⟨13, _⟩ => ⟨S8192x128, .f32⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S_, .f32⟩
  | .hbm, ⟨19, _⟩ => ⟨S8192x128, .f32⟩
  | .hbm, ⟨20, _⟩ => ⟨S8192x128, .f32⟩
  | .hbm, ⟨21, _⟩ => ⟨S8192x8, .f32⟩
  | .hbm, ⟨22, _⟩ => ⟨S8192x120, .f32⟩
  | .hbm, ⟨23, _⟩ => ⟨S8192x120, .f32⟩
  | .hbm, ⟨24, _⟩ => ⟨S_, .f32⟩
  | .hbm, ⟨25, _⟩ => ⟨S8192x120, .f32⟩
  | .hbm, ⟨26, _⟩ => ⟨S8192x120, .f32⟩
  | .hbm, ⟨27, _⟩ => ⟨S8192x120, .f32⟩
  | .hbm, ⟨28, _⟩ => ⟨S8192x120, .f32⟩
  | .hbm, ⟨29, _⟩ => ⟨S8192x120, .i1⟩
  | .hbm, ⟨30, _⟩ => ⟨S8192x120, .f32⟩
  | .hbm, ⟨31, _⟩ => ⟨S8192x120, .f32⟩
  | .hbm, ⟨32, _⟩ => ⟨S8192x120, .f32⟩
  | .hbm, ⟨33, _⟩ => ⟨S8192x120, .f32⟩
  | .hbm, ⟨34, _⟩ => ⟨S8192x120, .f32⟩
  | .hbm, ⟨35, _⟩ => ⟨S8192x120, .f32⟩
  | .hbm, ⟨36, _⟩ => ⟨S8192x120, .f32⟩
  | .hbm, ⟨37, _⟩ => ⟨S8192x120, .f32⟩
  | .hbm, ⟨38, _⟩ => ⟨S8192x120, .f32⟩
  | .hbm, ⟨39, _⟩ => ⟨S8192x128, .f32⟩
  | .hbm, ⟨40, _⟩ => ⟨S8192x16, .f32⟩
  | .hbm, ⟨41, _⟩ => ⟨S16x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call1_v0 : Ref sig .tc := ⟨.hbm, 23, rfl⟩
abbrev main_call1_call0_cst : Ref sig .tc := ⟨.hbm, 24, rfl⟩
abbrev main_call1_call0_v0 : Ref sig .tc := ⟨.hbm, 25, rfl⟩
abbrev main_call1_call0_v1 : Ref sig .tc := ⟨.hbm, 26, rfl⟩
abbrev main_call1_call0_v2 : Ref sig .tc := ⟨.hbm, 27, rfl⟩
abbrev main_call1_call0_v3 : Ref sig .tc := ⟨.hbm, 28, rfl⟩
abbrev main_call1_call0_v4 : Ref sig .tc := ⟨.hbm, 29, rfl⟩
abbrev main_call1_call0_v5 : Ref sig .tc := ⟨.hbm, 30, rfl⟩
abbrev main_call1_call0_v6 : Ref sig .tc := ⟨.hbm, 31, rfl⟩
abbrev main_call1_call0_v7 : Ref sig .tc := ⟨.hbm, 32, rfl⟩
abbrev main_call1_call0_v8 : Ref sig .tc := ⟨.hbm, 33, rfl⟩
abbrev main_call1_call0_v9 : Ref sig .tc := ⟨.hbm, 34, rfl⟩
abbrev main_call1_call0_v10 : Ref sig .tc := ⟨.hbm, 35, rfl⟩
abbrev main_call1_call0_v11 : Ref sig .tc := ⟨.hbm, 36, rfl⟩
abbrev main_call1_v1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩

abbrev nD : Nat := 1
abbrev τ : Topo := Topo.v7x

variable {F : FTy → Type} [FloatOps F]
-- ==== Proof.RefRun.lean ====
/-
  The reference's loop. A valuation holds a state when its carried buffers are the state's fields, its loop constants are the
  ones set up before the loop, and its counter is the trip's number. One trip of the program then leaves a valuation that
  holds the next state, and so the run's result is read off the states iterated from the initial one.
-/
module

public import proofs.«01_k».proof.Proof.Gen.ReferenceIdeal.Run
public import proofs.«01_k».proof.Proof.Gen.ReferenceIdeal.Step

@[expose] public section

noncomputable section

namespace Cert.ReferenceIdeal.LoopRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v32_7) = s.main_v32_7
  f_8 : V0 (Proc.devRef .tc main_v32_8) = s.main_v32_8
  f_9 : V0 (Proc.devRef .tc main_v32_9) = s.main_v32_9
  f_10 : V0 (Proc.devRef .tc main_v32_10) = s.main_v32_10
  f_0 : V0 (Proc.devRef .tc main_v32_0) = s.main_v32_0
  f_1 : V0 (Proc.devRef .tc main_v32_1) = s.main_v32_1
  f_2 : V0 (Proc.devRef .tc main_v32_2) = s.main_v32_2
  f_3 : V0 (Proc.devRef .tc main_v32_3) = s.main_v32_3
  f_4 : V0 (Proc.devRef .tc main_v32_4) = s.main_v32_4
  n_6 : V0 (Proc.devRef .tc main_v32_6) = constantI S_ 32 (BitVec.ofNat 32 j)
  k_5 : V0 (Proc.devRef .tc main_v32_5) = Cert.ReferenceIdeal.Step.K_main_v27 (F := F)

variable {V0 s j}

/-- The state that a valuation's buffers hold. -/
def stateOf (V : Valuation τ sig (Elt F)) : State F where
  main_v32_0 := V (Proc.devRef .tc main_v32_0)
  main_v32_1 := V (Proc.devRef .tc main_v32_1)
  main_v32_2 := V (Proc.devRef .tc main_v32_2)
  main_v32_3 := V (Proc.devRef .tc main_v32_3)
  main_v32_4 := V (Proc.devRef .tc main_v32_4)
  main_v32_7 := V (Proc.devRef .tc main_v32_7)
  main_v32_8 := V (Proc.devRef .tc main_v32_8)
  main_v32_9 := V (Proc.devRef .tc main_v32_9)
  main_v32_10 := V (Proc.devRef .tc main_v32_10)

/-- A valuation with the mask of the earlier tokens and the trip's number written into their buffers. -/
def settle (V : Valuation τ sig (Elt F)) (j : ℕ) : Valuation τ sig (Elt F) :=
  Function.update (Function.update V (Proc.devRef .tc main_v32_5) (Cert.ReferenceIdeal.Step.K_main_v27 (F := F)))
    (Proc.devRef .tc main_v32_6) (constantI S_ 32 (BitVec.ofNat 32 j))

/-- A valuation that holds a state has the mask and the number in their buffers already. -/
theorem settle_eq (h : Holds V0 s j) : settle V0 j = V0 := by
  unfold settle
  rw [← h.k_5, Function.update_eq_self, ← h.n_6, Function.update_eq_self]

/-- A valuation that holds a state holds the state of its buffers. -/
theorem stateOf_eq (h : Holds V0 s j) : stateOf V0 = s := by
  obtain ⟨a, b, c, d, e, f, g, i, k⟩ := s
  obtain ⟨h1, h2, h3, h4, h5, h6, h7, h8, h9, -, -⟩ := h
  subst h1 h2 h3 h4 h5 h6 h7 h8 h9
  rfl

/-- A trip's carried values, of a valuation with the mask and the number written in, are those of `step`. -/
theorem step_settle (V : Valuation τ sig (Elt F)) (j : ℕ) :
    step_main_v32_7 (settle V j) = (step j (stateOf (settle V j))).main_v32_7
    ∧ step_main_v32_8 (settle V j) = (step j (stateOf (settle V j))).main_v32_8
    ∧ step_main_v32_9 (settle V j) = (step j (stateOf (settle V j))).main_v32_9
    ∧ step_main_v32_10 (settle V j) = (step j (stateOf (settle V j))).main_v32_10 := by
  simp only [Cert.ReferenceIdeal.Step.step]
  exact ⟨rfl, rfl, rfl, rfl⟩

/-- A trip's carried values, of a valuation that holds a state, are the next state's. -/
theorem step_holds (h : Holds V0 s j) :
    step_main_v32_7 V0 = (step j s).main_v32_7 ∧ step_main_v32_8 V0 = (step j s).main_v32_8
    ∧ step_main_v32_9 V0 = (step j s).main_v32_9 ∧ step_main_v32_10 V0 = (step j s).main_v32_10 := by
  have e := step_settle V0 j
  rwa [settle_eq h, stateOf_eq h] at e

/-- A trip's counter is the next number. -/
theorem step_6 (h : Holds V0 s j) : step_main_v32_6 V0 = constantI S_ 32 (BitVec.ofNat 32 (j + 1)) := by
  unfold step_main_v32_6
  rw [h.n_6]
  funext i
  show BitVec.ofNat 32 j + 1#32 = BitVec.ofNat 32 (j + 1)
  simp only [BitVec.ofNat_add]

/-- The result, after the loop, is read off the state and the first argument. -/
theorem out_main_v56_holds (h : Holds V0 s j) {x_main_arg0 : (⟨S8192x12288, .bf16⟩ : BufTy).Contents (Elt F)} (h_main_arg0 : V0 (Proc.devRef .tc main_arg0) = x_main_arg0) : out_main_v56 V0 = Cert.ReferenceIdeal.Step.R_main_v56 s x_main_arg0 := by
  unfold out_main_v56 Cert.ReferenceIdeal.Step.R_main_v56
  rw [h.f_10, h_main_arg0]
  try rfl

/-- One trip keeps the valuation holding: `step` of the state, the same set-up values, the next number. -/
theorem holds_step (h : Holds V0 s j) : Holds (STEP V0) (step j s) (j + 1) where
  f_7 := (STEP_main_v32_7 V0).trans (step_holds h).1
  f_8 := (STEP_main_v32_8 V0).trans (step_holds h).2.1
  f_9 := (STEP_main_v32_9 V0).trans (step_holds h).2.2.1
  f_10 := (STEP_main_v32_10 V0).trans (step_holds h).2.2.2
  n_6 := (STEP_main_v32_6 V0).trans (step_6 h)
  k_5 := (STEP_main_v32_5 V0).trans h.k_5
  f_0 := (STEP_main_v32_0 V0).trans h.f_0
  f_1 := (STEP_main_v32_1 V0).trans h.f_1
  f_2 := (STEP_main_v32_2 V0).trans h.f_2
  f_3 := (STEP_main_v32_3 V0).trans h.f_3
  f_4 := (STEP_main_v32_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v56) = Cert.ReferenceIdeal.Step.R_main_v56 (it c 64) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 64
    ⟨(h c).1.trans (out_main_v56_holds hk (iter_main_arg0 m c 64)), (h c).2.1, (h c).2.2⟩) (Value.run m ρ)

end Cert.ReferenceIdeal.LoopRun

end
-- ==== Proof.Chunk.lean ====
/-
  The arithmetic of the gated recurrence over the real numbers, for one head and one sequence.

  `mem f a x T` is the memory before token `T`: the sum over the earlier tokens `s` of `x s`, weighted by the
  exponential of the input gate `a s` and of the forget gates `f` passed since. A chunked evaluation carries it divided
  by `exp m` for some running `m`. The lemmas say that one chunk of any length `L`, entered with such a memory, gives the
  memory at the chunk's end and the read-out at every token of the chunk, whatever the two stabilisers are. The kernel
  (chunks of 256) and the reference (chunks of 64) are both instances.
-/
module

public import Mathlib.Data.EReal.Operations
public import Mathlib.Analysis.SpecialFunctions.Exp
public import Idealize.ShloMosaic.Lib.Pointwise

@[expose] public section

noncomputable section

namespace Cert.Mlstm

open Finset

/-- The sum of the forget gates of the tokens before `t`. -/
def gsum (f : ℕ → ℝ) (t : ℕ) : ℝ := ∑ u ∈ range t, f u

/-- The unstabilised memory before token `T` of the quantity `x`. -/
def mem (f a x : ℕ → ℝ) (T : ℕ) : ℝ := ∑ s ∈ range T, Real.exp (gsum f T - gsum f (s + 1) + a s) * x s

/-- Nothing is remembered before the first token. -/
theorem mem_zero (f a x : ℕ → ℝ) : mem f a x 0 = 0 := by simp [mem]

/-- The gates of `n` tokens from token `T`. -/
theorem gsum_add (f : ℕ → ℝ) (T n : ℕ) : gsum f (T + n) - gsum f T = ∑ u ∈ range n, f (T + u) := by
  unfold gsum
  rw [sum_range_add]
  ring

/-- The memory `n` tokens later: the old one, decayed, and the new tokens. -/
theorem mem_add (f a x : ℕ → ℝ) (T n : ℕ) :
    mem f a x (T + n) = Real.exp (gsum f (T + n) - gsum f T) * mem f a x T
      + ∑ s ∈ range n, Real.exp (gsum f (T + n) - gsum f (T + s + 1) + a (T + s)) * x (T + s) := by
  unfold mem
  rw [sum_range_add, mul_sum]
  congr 1
  refine sum_congr rfl fun s _ => ?_
  rw [← mul_assoc, ← Real.exp_add]
  congr 2
  ring

/-- The memory is linear in the remembered quantity. -/
theorem sum_mul_mem {ι : Type} [Fintype ι] (f a : ℕ → ℝ) (q : ι → ℝ) (x : ι → ℕ → ℝ) (T : ℕ) :
    ∑ d, q d * mem f a (x d) T = mem f a (fun s => ∑ d, q d * x d s) T := by
  unfold mem
  simp only [mul_sum]
  rw [sum_comm]
  refine sum_congr rfl fun s _ => sum_congr rfl fun d _ => ?_
  ring

/-- The stabilised memory at the end of a chunk of `L` tokens. -/
theorem state_step (f a x : ℕ → ℝ) (T L : ℕ) (m0 r : ℝ) :
    Real.exp (gsum f (T + L) - gsum f T + m0 - r) * (Real.exp (-m0) * mem f a x T)
      + ∑ s : Fin L, Real.exp (gsum f (T + L) - gsum f T - (gsum f (T + s + 1) - gsum f T) + a (T + s) - r) * x (T + s)
    = Real.exp (-r) * mem f a x (T + L) := by
  rw [mem_add, mul_add, ← mul_assoc, ← mul_assoc, ← Real.exp_add, ← Real.exp_add,
    Fin.sum_univ_eq_sum_range (fun s => Real.exp (gsum f (T + L) - gsum f T - (gsum f (T + s + 1) - gsum f T) + a (T + s) - r) * x (T + s)) L,
    mul_sum]
  congr 1
  · congr 2
    ring
  · refine sum_congr rfl fun s _ => ?_
    rw [← mul_assoc, ← Real.exp_add]
    congr 2
    ring

/-- The stabilised read-out at token `t` of a chunk of `L`: the carried memory's part and the part of the chunk's
    tokens up to `t`. -/
theorem read_step {ι : Type} [Fintype ι] (f a v : ℕ → ℝ) (q : ι → ℝ) (k : ℕ → ι → ℝ) (T L : ℕ) (t : Fin L) (m0 r : ℝ) :
    ∑ d, q d * Real.exp (gsum f (T + t + 1) - gsum f T + m0 - r) * (Real.exp (-m0) * mem f a (fun s => k s d * v s) T)
      + ∑ s : Fin L, (∑ d, q d * k (T + s) d)
          * (if s ≤ t then Real.exp (gsum f (T + t + 1) - gsum f T + (a (T + s) - (gsum f (T + s + 1) - gsum f T)) - r) else 0)
          * v (T + s)
    = Real.exp (-r) * mem f a (fun s => (∑ d, q d * k s d) * v s) (T + t + 1) := by
  have hlin : mem f a (fun s => (∑ d, q d * k s d) * v s) T = ∑ d, q d * mem f a (fun s => k s d * v s) T := by
    rw [sum_mul_mem]
    congr 1
    funext s
    rw [sum_mul]
    exact sum_congr rfl fun d _ => by ring
  have hold : ∑ d, q d * Real.exp (gsum f (T + t + 1) - gsum f T + m0 - r) * (Real.exp (-m0) * mem f a (fun s => k s d * v s) T)
      = Real.exp (-r) * (Real.exp (gsum f (T + t + 1) - gsum f T) * mem f a (fun s => (∑ d, q d * k s d) * v s) T) := by
    rw [hlin, mul_sum, mul_sum]
    refine sum_congr rfl fun d _ => ?_
    rw [show gsum f (T + t + 1) - gsum f T + m0 - r = (gsum f (T + t + 1) - gsum f T) + m0 + -r by ring, Real.exp_add,
      Real.exp_add, Real.exp_neg m0]
    field_simp
  have hnew : ∑ s : Fin L, (∑ d, q d * k (T + s) d)
          * (if s ≤ t then Real.exp (gsum f (T + t + 1) - gsum f T + (a (T + s) - (gsum f (T + s + 1) - gsum f T)) - r) else 0)
          * v (T + s)
      = Real.exp (-r) * ∑ s ∈ range (t + 1), Real.exp (gsum f (T + (t + 1)) - gsum f (T + s + 1) + a (T + s))
          * ((∑ d, q d * k (T + s) d) * v (T + s)) := by
    rw [mul_sum]
    have h1 := Fin.sum_univ_eq_sum_range (fun s => (∑ d, q d * k (T + s) d)
          * (if s ≤ t.val then Real.exp (gsum f (T + t + 1) - gsum f T + (a (T + s) - (gsum f (T + s + 1) - gsum f T)) - r) else 0)
          * v (T + s)) L
    have h2 : range (t.val + 1) ⊆ range L := range_subset_range.mpr t.isLt
    simp only [Fin.le_def]
    rw [h1, ← sum_subset h2 (fun s _ hs => by
      rw [if_neg (by simpa [Nat.lt_succ_iff] using hs)]; ring)]
    refine sum_congr rfl fun s hs => ?_
    rw [if_pos (Nat.lt_succ_iff.mp (mem_range.mp hs)),
      show gsum f (T + t + 1) - gsum f T + (a (T + s) - (gsum f (T + s + 1) - gsum f T)) - r
        = -r + (gsum f (T + (t + 1)) - gsum f (T + s + 1) + a (T + s)) by rw [← add_assoc T]; ring, Real.exp_add]
    ring
  rw [hold, hnew, ← mul_add, add_assoc T, mem_add]

/-- Dividing the stabilised read-out by the stabilised normaliser: the stabiliser cancels. -/
theorem div_stab (r N D : ℝ) :
    Real.exp (-r) * N * (max |Real.exp (-r) * D| (Real.exp (-r)))⁻¹ = N * (max |D| 1)⁻¹ := by
  have h : max |Real.exp (-r) * D| (Real.exp (-r)) = Real.exp (-r) * max |D| 1 := by
    rw [abs_mul, abs_of_pos (Real.exp_pos _), mul_max_of_nonneg _ _ (Real.exp_pos _).le, mul_one]
  rw [h, mul_inv]
  have := (Real.exp_pos (-r)).ne'
  field_simp

end Cert.Mlstm

end
-- ==== Proof.Ext.lean ====
/-
  Small facts about extended reals, the constants the programs name, and the masks: what both value proofs need to pass
  from a printed operation over the extended reals to real arithmetic.
-/
module

public import proofs.«01_k».proof.Proof.Chunk
public import Idealize.ShloMosaic.Lib.WordCmp
public import Idealize.ShloMosaic.Lib.Pointwise

@[expose] public section

noncomputable section

namespace Cert.Mlstm

open Idealize.ShloMosaic Idealize.ShloMosaic.ValueIdx Finset

/-- A finite sum of real numbers, taken in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

/-- The maximum of a real number and of finitely many values none of which is `⊤` is a real number. -/
theorem exists_max {ι : Type} [Fintype ι] (y : ℝ) (f : ι → EReal) (h : ∀ x, f x ≠ ⊤) :
    ∃ r : ℝ, max (y : EReal) (univ.fold max ⊥ f) = r := by
  classical
  have key : ∀ s : Finset ι, s.fold max ⊥ f ≠ ⊤ := by
    intro s
    induction s using Finset.induction_on with
    | empty => simp
    | insert a s ha ih =>
      rw [fold_insert ha]
      rcases max_choice (f a) (s.fold max ⊥ f) with h' | h' <;> rw [h']
      exacts [h a, ih]
  refine ⟨(max (y : EReal) (univ.fold max ⊥ f)).toReal, (EReal.coe_toReal ?_ ?_).symm⟩
  · rcases max_choice (y : EReal) (univ.fold max ⊥ f) with h' | h' <;> rw [h']
    exacts [EReal.coe_ne_top y, key _]
  · exact ne_bot_of_le_ne_bot (EReal.coe_ne_bot y) (le_max_left _ _)

/-- The larger of two real numbers, taken in the extended reals. -/
theorem max_coe (a b : ℝ) : max (a : EReal) b = ((max a b : ℝ) : EReal) := by
  rcases le_total a b with h | h
  · rw [max_eq_right h, max_eq_right (by exact_mod_cast h)]
  · rw [max_eq_left h, max_eq_left (by exact_mod_cast h)]

/-- The magnitude of a real number, taken in the extended reals. -/
theorem abs_coe (a : ℝ) : max (a : EReal) (-(a : EReal)) = ((|a| : ℝ) : EReal) := by
  rw [← EReal.coe_neg, max_coe]
  rfl

/-- A quotient of real numbers by a divisor other than zero. -/
theorem div_coe_coe (a b : ℝ) (h : b ≠ 0) : Ideal.div (a : EReal) (b : EReal) = ((a * b⁻¹ : ℝ) : EReal) := by
  rw [Ideal.div_coe h, ← EReal.coe_mul, one_div]

/-- The inverse square root of a positive real number. -/
theorem rsqrt_pos (a : ℝ) (h : 0 < a) : Ideal.rsqrt (a : EReal) = (((Real.sqrt a)⁻¹ : ℝ) : EReal) := by
  rw [Ideal.rsqrt_coe, if_neg (not_lt.mpr h.le), if_neg h.ne']

/-- The constant the masks put in place of a later token, minus infinity. -/
theorem ofBits_negInf : Ideal.ofBits .f32 4286578688#32 = ⊥ := by simp [Ideal.ofBits, Ideal.ieee]

/-- The kernel's factor for the mean over a head's 512 columns. -/
theorem ofBits_inv512 : Ideal.ofBits .f32 989855744#32 = (((512 : ℝ)⁻¹ : ℝ) : EReal) := by
  simp [Ideal.ofBits, Ideal.ieee]
  rw [← EReal.coe_mul]
  norm_num

/-- The reference's divisor for the mean over a head's 512 columns. -/
theorem ofBits_512 : Ideal.ofBits .f32 1140850688#32 = ((512 : ℝ) : EReal) := by
  simp [Ideal.ofBits, Ideal.ieee]
  rw [← EReal.coe_mul]
  norm_num

/-- The regulariser both programs add to the mean of squares. -/
def eps : ℝ := 8796093 * (2 ^ 43)⁻¹

/-- The regulariser, the single-precision number nearest a millionth, is that real number. -/
theorem ofBits_eps : Ideal.ofBits .f32 897988541#32 = (eps : EReal) := by
  rw [eps]
  simp [Ideal.ofBits, Ideal.ieee]

/-- The regulariser is positive. -/
theorem eps_pos : 0 < eps := by
  rw [eps]
  positivity

/-- A choice on the comparison of two positions, of fewer than 2 ^ 31. -/
theorem select_sle {α : Type} (x t : ℕ) (hx : x < 2 ^ 31) (ht : t < 2 ^ 31) (a b : α) :
    Scalar.select (IntOp.cmpi .sle (BitVec.ofNat 32 x) (BitVec.ofNat 32 t)) a b = if x ≤ t then a else b := by
  rw [WordCmp.cmpi_sle_ofNat (by simpa using hx) (by simpa using ht)]
  by_cases h : x ≤ t <;> simp [h, Scalar.select]

/-- The exponential of a masked difference. -/
theorem exp_mask (p : Prop) [Decidable p] (a r : ℝ) :
    Ideal.exp ((if p then (a : EReal) else ⊥) - (r : EReal)) = ((if p then Real.exp (a - r) else 0 : ℝ) : EReal) := by
  by_cases h : p
  · simp only [if_pos h]
    rw [← EReal.coe_sub, Ideal.exp_coe]
  · simp only [if_neg h]
    rw [show (⊥ : EReal) - (r : EReal) = ⊥ from EReal.bot_sub _, Ideal.exp_bot, EReal.coe_zero]

/-- The exponential of a real difference. -/
theorem exp_sub_coe (a r : ℝ) : Ideal.exp ((a : EReal) - (r : EReal)) = ((Real.exp (a - r) : ℝ) : EReal) := by
  rw [← EReal.coe_sub, Ideal.exp_coe]

/-- A masked real number is not `⊤`. -/
theorem mask_ne_top (p : Prop) [Decidable p] (a : ℝ) : (if p then (a : EReal) else ⊥) ≠ ⊤ := by
  by_cases h : p <;> simp [h]

end Cert.Mlstm

end
-- ==== Proof.Spec.lean ====
/-
  What the recurrence computes, as one function of the projections and the gates: `spec p g`. Both the kernel's array and
  the reference's are shown to be it. Each of the 2 sequences has 4096 tokens (the rows of `p` and `g`), each of the
  8 heads 256 columns of q and of k, 512 of v and of the output gate.
-/
module

public import proofs.«01_k».proof.Proof.Ext

@[expose] public section

noncomputable section

namespace Cert.Mlstm

open Idealize.ShloMosaic

/-- The read-out at token `t` of a head's memory of `k` and of a quantity `x`. -/
def readout (f a x : ℕ → ℝ) (q k : ℕ → Fin 256 → ℝ) (t : ℕ) : ℝ :=
  mem f a (fun s => (∑ d, q t d * k s d) * x s) (t + 1)

/-- The head's hidden value: the read-out of the values over the read-out of ones, at least 1 in magnitude. -/
def hid (f a : ℕ → ℝ) (q k : ℕ → Fin 256 → ℝ) (v : ℕ → Fin 512 → ℝ) (t : ℕ) (e : Fin 512) : ℝ :=
  readout f a (fun s => v s e) q k t * (max |readout f a (fun _ => 1) q k t| 1)⁻¹

/-- The inverse root mean square of a head's hidden values. -/
def rms (f a : ℕ → ℝ) (q k : ℕ → Fin 256 → ℝ) (v : ℕ → Fin 512 → ℝ) (t : ℕ) : ℝ :=
  (Real.sqrt ((∑ e, hid f a q k v t e * hid f a q k v t e) * 512⁻¹ + eps))⁻¹

/-- An array's entry in row `r` and column `c` as a real number. -/
def rd {R C : ℕ} (x : (⟨2, ![R, C]⟩ : Shape).Idx → EReal) (r c : ℕ) : ℝ :=
  if h : r < R ∧ c < C then (x (ix2 ⟨r, h.1⟩ ⟨c, h.2⟩)).toReal else 0

/-- An entry that is a real number is read as that number. -/
theorem rd_eq {R C : ℕ} (x : (⟨2, ![R, C]⟩ : Shape).Idx → EReal) (r : Fin R) (c : Fin C) (h : ∃ y : ℝ, x (ix2 r c) = y) (r' c' : ℕ)
    (hr : r.val = r') (hc : c.val = c') : x (ix2 r c) = ((rd x r' c' : ℝ) : EReal) := by
  subst hr hc
  obtain ⟨y, hy⟩ := h
  rw [rd, dif_pos ⟨r.isLt, c.isLt⟩]
  show x (ix2 r c) = (((x (ix2 r c)).toReal : ℝ) : EReal)
  rw [hy, EReal.toReal_coe]

variable (p : (⟨2, ![8192, 12288]⟩ : Shape).Idx → EReal) (g : (⟨2, ![8192, 16]⟩ : Shape).Idx → EReal)

/-- The logarithms of the input gates of head `h` of sequence `b`, token by token. -/
def aG (b h s : ℕ) : ℝ := rd g (4096 * b + s) h
/-- The logarithms of the forget gates. -/
def fG (b h s : ℕ) : ℝ := rd g (4096 * b + s) (8 + h)
/-- The queries. -/
def qG (b h s : ℕ) (d : Fin 256) : ℝ := rd p (4096 * b + s) (256 * h + d.val)
/-- The keys. -/
def kG (b h s : ℕ) (d : Fin 256) : ℝ := rd p (4096 * b + s) (2048 + 256 * h + d.val)
/-- The values. -/
def vG (b h s : ℕ) (e : Fin 512) : ℝ := rd p (4096 * b + s) (4096 + 512 * h + e.val)

/-- The result: the output gate's logistic times the head's hidden value over its root mean square. -/
def spec (i : (⟨2, ![8192, 4096]⟩ : Shape).Idx) : EReal :=
  let b := (i 0).val / 4096
  let h := (i 1).val / 512
  let s := (i 0).val % 4096
  Ideal.logistic (p (ix2 ⟨(i 0).val, (i 0).isLt⟩ ⟨8192 + (i 1).val, Nat.add_lt_add_left (i 1).isLt 8192⟩))
    * ((hid (fG g b h) (aG g b h) (qG p b h) (kG p b h) (vG p b h) s ⟨(i 1).val % 512, Nat.mod_lt _ (by decide)⟩
        * rms (fG g b h) (aG g b h) (qG p b h) (kG p b h) (vG p b h) s : ℝ) : EReal)

/-- `spec` at the token `s` of sequence `b` and the column `e` of head `h`. -/
theorem spec_at (r : Fin 8192) (x : Fin 4096) (b h s : ℕ) (e : Fin 512) (hb : r.val / 4096 = b) (hs : r.val % 4096 = s)
    (hh : x.val / 512 = h) (he : x.val % 512 = e.val) :
    spec p g (ix2 r x) = Ideal.logistic (p (ix2 r ⟨8192 + x.val, Nat.add_lt_add_left x.isLt 8192⟩))
      * ((hid (fG g b h) (aG g b h) (qG p b h) (kG p b h) (vG p b h) s e
          * rms (fG g b h) (aG g b h) (qG p b h) (kG p b h) (vG p b h) s : ℝ) : EReal) := by
  subst hb hs hh
  have : e = ⟨x.val % 512, Nat.mod_lt _ (by decide)⟩ := Fin.ext he.symm
  subst this
  rfl

/-- The entries the recurrence reads are real numbers: all of q, k, v and all gates. The output gate may be anything. -/
structure AllReal : Prop where
  p : ∀ (r : Fin 8192) (c : Fin 12288), c.val < 8192 → ∃ y : ℝ, p (ix2 r c) = y
  g : ∀ (r : Fin 8192) (c : Fin 16), ∃ y : ℝ, g (ix2 r c) = y

/-- A running sum of `f` within a chunk, in the form of a sum over the whole chunk with a mask. -/
theorem sum_mask (f : ℕ → ℝ) (T n : ℕ) (t : Fin n) :
    ∑ x : Fin n, (if x.val ≤ t.val then f (T + x) else 0) = gsum f (T + t + 1) - gsum f T := by
  rw [add_assoc T, gsum_add, Fin.sum_univ_eq_sum_range (fun x => if x ≤ t.val then f (T + x) else 0) n,
    ← Finset.sum_subset (Finset.range_subset_range.mpr t.isLt) (fun s _ hs => by
      rw [if_neg (by simpa [Nat.lt_succ_iff] using hs)])]
  exact Finset.sum_congr rfl fun s hs => if_pos (Nat.lt_succ_iff.mp (Finset.mem_range.mp hs))

end Cert.Mlstm

end
-- ==== Proof.Head.lean ====
/-
  One head of the kernel's body at one chunk of 256 tokens. The body's text treats its eight heads alike; `hOut`, `hC`
  and `hM` are what it stores for a head, as functions of the head's slices of the gates, of q, k, v and the output gate,
  and of the head's carried memory and stabiliser. `Head` says which real numbers these slices hold; `head_state` and
  `head_out` say what is then stored.
-/
module

public import proofs.«01_k».proof.Proof.Gen.KernelIdeal.Value
public import proofs.«01_k».proof.Proof.Spec

@[expose] public section

set_option maxRecDepth 16384

noncomputable section

open Idealize.ShloMosaic Idealize.ShloMosaic.TcCoe Idealize.SL.Sem

namespace Cert.Mlstm
open Cert.KernelIdeal Cert.KernelIdeal.Gen

/-- The block of results stored for a head. -/
def hOut (ic bc : FVec Ideal S256x1 .f32) (ir br : FVec Ideal S1x256 .f32) (m : FVec Ideal S1x1x1 .f32)
    (q k : FVec Ideal S256x256 .bf16) (v o : FVec Ideal S256x512 .bf16) (C : FVec Ideal S1x256x640 .f32) : FVec Ideal S256x512 .bf16 :=
  k0_pay83 (k0_pay80 k0_pay5 k0_pay16 ir br bc (k0_pay73 m) q k v C)
    (k0_pay81 k0_pay5 k0_pay16 ir br bc (k0_pay73 m) q k v C) (k0_pay82 k0_pay5 k0_pay16 ir br bc (k0_pay73 m) q k v C) o

/-- The memory carried to the head's next chunk. -/
def hC (ic bc : FVec Ideal S256x1 .f32) (m : FVec Ideal S1x1x1 .f32)
    (k : FVec Ideal S256x256 .bf16) (v : FVec Ideal S256x512 .bf16) (C : FVec Ideal S1x256x640 .f32) : FVec Ideal S1x256x640 .f32 :=
  k0_pay87 ic bc (k0_pay73 m) k (k0_pay77 k0_pay16 v) (k0_pay78 C)

/-- The stabiliser carried to the head's next chunk. -/
def hM (ic bc : FVec Ideal S256x1 .f32) (m : FVec Ideal S1x1x1 .f32) : FVec Ideal S1x1x1 .f32 :=
  k0_pay88 (k0_pay86 ic bc (k0_pay73 m))

/-- The value of a token with a column of ones behind it: the memory's column 512 is the normaliser. -/
def vaug (v : ℕ → Fin 512 → ℝ) (s : ℕ) (e : Fin 640) : ℝ :=
  if h : e.val < 512 then v s ⟨e.val, h⟩ else if e.val = 512 then 1 else 0

/-- The real numbers a head's slices hold at the chunk that starts at token `T`. -/
structure Head (f a : ℕ → ℝ) (qr kr : ℕ → Fin 256 → ℝ) (vr : ℕ → Fin 512 → ℝ) (T : ℕ) (m0 : ℝ)
    (ic bc : FVec Ideal S256x1 .f32) (ir br : FVec Ideal S1x256 .f32) (m : FVec Ideal S1x1x1 .f32)
    (q k : FVec Ideal S256x256 .bf16) (v : FVec Ideal S256x512 .bf16) (C : FVec Ideal S1x256x640 .f32) : Prop where
  ic : ∀ t : Fin 256, ic (ix2 t 0) = ((a (T + t) : ℝ) : EReal)
  bc : ∀ t : Fin 256, bc (ix2 t 0) = ((gsum f (T + t + 1) - gsum f T : ℝ) : EReal)
  ir : ∀ t : Fin 256, ir (ix2 0 t) = ((a (T + t) : ℝ) : EReal)
  br : ∀ t : Fin 256, br (ix2 0 t) = ((gsum f (T + t + 1) - gsum f T : ℝ) : EReal)
  m : m (ix3 0 0 0) = (m0 : EReal)
  q : ∀ (t : Fin 256) (d : Fin 256), q (ix2 t d) = ((qr (T + t) d : ℝ) : EReal)
  k : ∀ (t : Fin 256) (d : Fin 256), k (ix2 t d) = ((kr (T + t) d : ℝ) : EReal)
  v : ∀ (t : Fin 256) (e : Fin 512), v (ix2 t e) = ((vr (T + t) e : ℝ) : EReal)
  C : ∀ (d : Fin 256) (e : Fin 640), C (ix3 0 d e)
    = ((Real.exp (-m0) * mem f a (fun s => kr s d * vaug vr s e) T : ℝ) : EReal)

variable {f a : ℕ → ℝ} {qr kr : ℕ → Fin 256 → ℝ} {vr : ℕ → Fin 512 → ℝ} {T : ℕ} {m0 : ℝ}
variable {ic bc : FVec Ideal S256x1 .f32} {ir br : FVec Ideal S1x256 .f32} {m : FVec Ideal S1x1x1 .f32}
variable {q k : FVec Ideal S256x256 .bf16} {v o : FVec Ideal S256x512 .bf16} {C : FVec Ideal S1x256x640 .f32}

/-- The value block with the column of ones, as the body forms it. -/
theorem vaug_apply (H : Head f a qr kr vr T m0 ic bc ir br m q k v C) (t : Fin 256) (e : Fin 640) :
    k0_pay77 (F := Ideal) k0_pay16 v (ix2 t e) = ((vaug vr (T + t) e : ℝ) : EReal) := by
  pointwise [k0_pay77, k0_pay16]
  unfold vaug
  split_ifs with h1 h2
  · exact H.v t ⟨e.val, h1⟩
  · simp [h2, IntOp.cmpi, Scalar.select]
  · have h3 : (BitVec.ofNat 32 (e.val - 512) == 0#32) = false := by
      rw [beq_eq_false_iff_ne]
      intro h
      have := congrArg BitVec.toNat h
      simp at this
      omega
    simp [h3, IntOp.cmpi, Scalar.select]

/-- What a head carries on: again a memory divided by the exponential of some real stabiliser. -/
theorem head_state (H : Head f a qr kr vr T m0 ic bc ir br m q k v C) : ∃ m1 : ℝ,
    hM ic bc m (ix3 0 0 0) = (m1 : EReal) ∧ ∀ (d : Fin 256) (e : Fin 640), hC ic bc m k v C (ix3 0 d e)
      = ((Real.exp (-m1) * mem f a (fun s => kr s d * vaug vr s e) (T + 256) : ℝ) : EReal) := by
  have hM0 : hM ic bc m (ix3 0 0 0) = max (((gsum f (T + 256) - gsum f T + m0 : ℝ)) : EReal)
      (Finset.univ.fold max ⊥ fun x : Fin 256 =>
        ((gsum f (T + 256) - gsum f T - (gsum f (T + x + 1) - gsum f T) + a (T + x) : ℝ) : EReal)) := by
    pointwise [hM, k0_pay88, k0_pay86, k0_pay85, k0_pay84, k0_pay73]
    simp only [H.ic, H.bc, H.m, ofBits_negInf, ← EReal.coe_add, ← EReal.coe_sub]
    rfl
  obtain ⟨m1, hm1⟩ := exists_max (gsum f (T + 256) - gsum f T + m0) (fun x : Fin 256 =>
        ((gsum f (T + 256) - gsum f T - (gsum f (T + x + 1) - gsum f T) + a (T + x) : ℝ) : EReal)) (fun x => EReal.coe_ne_top _)
  refine ⟨m1, hM0.trans hm1, fun d e => ?_⟩
  have hv := fun t => vaug_apply H t e
  rw [← state_step f a (fun s => kr s d * vaug vr s e) T 256 m0 m1]
  have hC0 : hC ic bc m k v C (ix3 0 d e) = Ideal.exp (bc (ix2 255 0) + m (ix3 0 0 0) - hM ic bc m (ix3 0 0 0)) * C (ix3 0 d e)
      + ∑ x : Fin 256, Ideal.exp (bc (ix2 255 0) - bc (ix2 x 0) + ic (ix2 x 0) - hM ic bc m (ix3 0 0 0)) * k (ix2 x d)
        * k0_pay77 (F := Ideal) k0_pay16 v (ix2 x e) := by
    pointwise [hC, hM, k0_pay88, k0_pay87, k0_pay86, k0_pay85, k0_pay84, k0_pay77, k0_pay78, k0_pay73, k0_pay16]
  rw [hC0, hM0, hm1]
  simp only [hv, H.ic, H.bc, H.m, H.k, H.C, ← EReal.coe_add, ← EReal.coe_sub, Ideal.exp_coe,
    ← EReal.coe_mul, sum_coe, mul_assoc]
  rfl

/-- The stabiliser the body uses at a token is a real number. -/
theorem head_mt (H : Head f a qr kr vr T m0 ic bc ir br m q k v C) (t : Fin 256) : ∃ r : ℝ,
    k0_pay76 (F := Ideal) k0_pay5 ir br bc (k0_pay73 m) (ix2 t 0) = (r : EReal) := by
  pointwise [k0_pay76, k0_pay75, k0_pay74, k0_pay5, k0_pay73]
  simp only [H.ir, H.br, H.bc, H.m, ofBits_negInf, ← EReal.coe_add, ← EReal.coe_sub]
  refine exists_max _ _ fun x => ?_
  rw [select_sle _ _ (by omega) (by omega)]
  exact mask_ne_top _ _

/-- The read-out of the memory and of the chunk, with the column of ones. -/
theorem head_read (H : Head f a qr kr vr T m0 ic bc ir br m q k v C) (t : Fin 256) (r : ℝ)
    (hr : k0_pay76 (F := Ideal) k0_pay5 ir br bc (k0_pay73 m) (ix2 t 0) = (r : EReal)) (e : Fin 640) :
    k0_pay79 (F := Ideal) k0_pay5 k0_pay16 ir br bc (k0_pay73 m) q k v C (ix2 t e)
      = ((Real.exp (-r) * readout f a (fun s => vaug vr s e) qr kr (T + t) : ℝ) : EReal) := by
  have h75 : k0_pay75 (F := Ideal) bc (k0_pay73 m) (ix2 t 0) = ((gsum f (T + t + 1) - gsum f T + m0 : ℝ) : EReal) := by
    pointwise [k0_pay75, k0_pay73]
    rw [H.bc, H.m, ← EReal.coe_add]
  have h74 : ∀ x : Fin 256, k0_pay74 (F := Ideal) k0_pay5 ir br bc (ix2 t x)
      = if x ≤ t then ((gsum f (T + t + 1) - gsum f T + (a (T + x) - (gsum f (T + x + 1) - gsum f T)) : ℝ) : EReal) else ⊥ := by
    intro x
    pointwise [k0_pay74, k0_pay5]
    rw [select_sle _ _ (by omega) (by omega), ofBits_negInf]
    simp only [H.bc, H.ir, H.br, ← EReal.coe_add, ← EReal.coe_sub]
    rfl
  have h79 : k0_pay79 (F := Ideal) k0_pay5 k0_pay16 ir br bc (k0_pay73 m) q k v C (ix2 t e)
      = ∑ x : Fin 256, q (ix2 t x) * Ideal.exp (k0_pay75 (F := Ideal) bc (k0_pay73 m) (ix2 t 0)
            - k0_pay76 (F := Ideal) k0_pay5 ir br bc (k0_pay73 m) (ix2 t 0)) * C (ix3 0 x e)
        + ∑ x : Fin 256, (∑ x1 : Fin 256, q (ix2 t x1) * k (ix2 x x1)) * Ideal.exp (k0_pay74 (F := Ideal) k0_pay5 ir br bc (ix2 t x)
            - k0_pay76 (F := Ideal) k0_pay5 ir br bc (k0_pay73 m) (ix2 t 0)) * k0_pay77 (F := Ideal) k0_pay16 v (ix2 x e) := by
    pointwise [k0_pay79, k0_pay77, k0_pay78, k0_pay16]
  have hv := fun t => vaug_apply H t e
  rw [h79, hr, h75]
  simp only [h74, hv, H.q, H.k, H.C, exp_mask, exp_sub_coe, ← EReal.coe_mul, sum_coe, ← EReal.coe_add]
  rw [readout, ← read_step f a (fun s => vaug vr s e) (qr (T + t)) kr T 256 t m0 r]

/-- What a head stores: the gate's logistic, times the hidden value over its root mean square. -/
theorem head_out (H : Head f a qr kr vr T m0 ic bc ir br m q k v C) (t : Fin 256) (e : Fin 512) :
    hOut ic bc ir br m q k v o C (ix2 t e)
      = Ideal.logistic (o (ix2 t e)) * ((hid f a qr kr vr (T + t) e * rms f a qr kr vr (T + t) : ℝ) : EReal) := by
  obtain ⟨r, hr⟩ := head_mt H t
  have hrd := head_read H t r hr
  have hnum : ∀ e : Fin 512, k0_pay80 (F := Ideal) k0_pay5 k0_pay16 ir br bc (k0_pay73 m) q k v C (ix2 t e)
      = ((Real.exp (-r) * readout f a (fun s => vr s e) qr kr (T + t) : ℝ) : EReal) := by
    intro e
    have h0 : k0_pay80 (F := Ideal) k0_pay5 k0_pay16 ir br bc (k0_pay73 m) q k v C (ix2 t e)
        = k0_pay79 (F := Ideal) k0_pay5 k0_pay16 ir br bc (k0_pay73 m) q k v C (ix2 t ⟨e.val, by omega⟩) := by
      pointwise [k0_pay80]
    rw [h0, hrd]
    congr 3
    funext s
    simp [vaug]
  have hden : k0_pay81 (F := Ideal) k0_pay5 k0_pay16 ir br bc (k0_pay73 m) q k v C (ix2 t 0)
      = (((max |Real.exp (-r) * readout f a (fun _ => 1) qr kr (T + t)| (Real.exp (-r)))⁻¹ : ℝ) : EReal) := by
    have h0 : k0_pay81 (F := Ideal) k0_pay5 k0_pay16 ir br bc (k0_pay73 m) q k v C (ix2 t 0)
        = Ideal.div 1 (max (FloatOps.absf (k0_pay79 (F := Ideal) k0_pay5 k0_pay16 ir br bc (k0_pay73 m) q k v C (ix2 t 512)))
          (Ideal.exp ((0 : EReal) - k0_pay76 (F := Ideal) k0_pay5 ir br bc (k0_pay73 m) (ix2 t 0)))) := by
      pointwise [k0_pay81]
    have hv : (fun s => vaug vr s (512 : Fin 640)) = fun _ => 1 := by
      funext s
      rfl
    rw [h0, hrd, hr, hv, Ideal.absf_def, abs_coe, ← EReal.coe_zero, exp_sub_coe, zero_sub, max_coe, ← EReal.coe_one,
      div_coe_coe _ _ (lt_of_lt_of_le (Real.exp_pos _) (le_max_right _ _)).ne', one_mul]
  have hh : ∀ e, hid f a qr kr vr (T + t) e = Real.exp (-r) * readout f a (fun s => vr s e) qr kr (T + t)
      * (max |Real.exp (-r) * readout f a (fun _ => 1) qr kr (T + t)| (Real.exp (-r)))⁻¹ := fun e => (div_stab r _ _).symm
  pointwise [hOut, k0_pay83, k0_pay82]
  simp only [hnum, hden, ofBits_inv512, ofBits_eps, ← EReal.coe_mul, sum_coe, ← EReal.coe_add]
  rw [rsqrt_pos, ← EReal.coe_mul, ← EReal.coe_mul, rms]
  · congr 2
    rw [← mul_assoc, ← hh]
    congr 4
    congr 1
    rw [Finset.mul_sum]
    refine Finset.sum_congr rfl fun x _ => ?_
    rw [hh]
    ring
  · exact add_pos_of_nonneg_of_pos (mul_nonneg (mul_nonneg (mul_self_nonneg _)
      (Finset.sum_nonneg fun _ _ => mul_self_nonneg _)) (by norm_num)) eps_pos

end Cert.Mlstm

end
-- ==== Proof.Body.lean ====
/-
  The kernel's body at one grid point: whatever it finds in its carried memory `xs0` and stabilisers `xs1`, it stores for
  each of its eight heads what Proof/Head.lean says of that head's slices. At the first chunk of a sequence (case A) the
  memory and the stabilisers are first set to zero.
-/
module

public import proofs.«01_k».proof.Proof.Head
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Mlstm
open Cert.KernelIdeal Cert.KernelIdeal.Gen

/-- Stores that cover an index hide whatever was stored before. -/
theorem canon_hide {Val : EltTy → Type} [∀ e, Nonempty (Val e)] {S : Shape} {e : EltTy} (L' : List (View.Piece Val S e)) (y : S.Idx) :
    ∀ L : List (View.Piece Val S e), (∃ p ∈ L, y ∈ p.1.set) → View.canon (L ++ L') y = View.canon L y
  | [], h => by obtain ⟨p, hp, _⟩ := h; exact absurd hp List.not_mem_nil
  | p :: L, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_hide L' y L ?_
      obtain ⟨q, hq, hyq⟩ := h
      rcases List.mem_cons.mp hq with rfl | hq'
      exacts [absurd hyq hm, ⟨q, hq', hyq⟩]

variable (x0 x1 : Vec Ideal S256x2048 .bf16) (x2 x3 : Vec Ideal S256x4096 .bf16) (x4 : Vec Ideal S256x128 .f32)
  (x5 : Vec Ideal S16x256 .f32) (xs0 : Vec Ideal S8x256x640 .f32) (xs1 : Vec Ideal S8x1x1 .f32)

/-! ## A head's slices -/

/-- The head's input gates, as a column. -/
def icH (h : Fin 8) : FVec Ideal S256x1 .f32 :=
  extractStridedSlice S256x1 ![0, h.val] (k0_pay7 x4) (by revert h; decide)
/-- The head's summed forget gates, as a column. -/
def bcH (h : Fin 8) : FVec Ideal S256x1 .f32 :=
  extractStridedSlice S256x1 ![0, h.val + 8] (k0_pay9 x4) (by revert h; decide)
/-- The head's input gates, as a row. -/
def irH (h : Fin 8) : FVec Ideal S1x256 .f32 :=
  extractStridedSlice S1x256 ![h.val, 0] (k0_pay8 x5) (by revert h; decide)
/-- The head's summed forget gates, as a row. -/
def brH (h : Fin 8) : FVec Ideal S1x256 .f32 :=
  extractStridedSlice S1x256 ![h.val + 8, 0] (k0_pay15 k0_pay6 (k0_pay13 x5) (k0_pay14 x5) (constant S16x256 .f32 0x00000000#32))
    (by revert h; decide)
/-- The head's columns of q or of k. -/
def qkH (x : Vec Ideal S256x2048 .bf16) (h : Fin 8) : FVec Ideal S256x256 .bf16 :=
  View.ld x (Rect.unit ![0, 256 * h.val] ![256, 256] (by revert h; decide))
/-- The head's columns of v or of the output gate. -/
def voH (x : Vec Ideal S256x4096 .bf16) (h : Fin 8) : FVec Ideal S256x512 .bf16 :=
  View.ld x (Rect.unit ![0, 512 * h.val] ![256, 512] (by revert h; decide))
/-- The head's carried memory. -/
def cH (h : Fin 8) : FVec Ideal S1x256x640 .f32 :=
  View.ld xs0 (Rect.unit ![h.val, 0, 0] ![1, 256, 640] (by revert h; decide))
/-- The head's carried stabiliser. -/
def mH (h : Fin 8) : FVec Ideal S1x1x1 .f32 :=
  View.ld xs1 (Rect.unit ![h.val, 0, 0] ![1, 1, 1] (by revert h; decide))

/-- The block of results, head by head. -/
def gOut (h : Fin 8) : FVec Ideal S256x512 .bf16 :=
  hOut (icH x4 h) (bcH x4 h) (irH x5 h) (brH x5 h) (mH xs1 h) (qkH x0 h) (qkH x1 h) (voH x2 h) (voH x3 h) (cH xs0 h)
/-- The memory carried on, head by head. -/
def gC (h : Fin 8) : FVec Ideal S1x256x640 .f32 :=
  hC (icH x4 h) (bcH x4 h) (mH xs1 h) (qkH x1 h) (voH x2 h) (cH xs0 h)
/-- The stabiliser carried on, head by head. -/
def gM (h : Fin 8) : FVec Ideal S1x1x1 .f32 := hM (icH x4 h) (bcH x4 h) (mH xs1 h)

/-- Column `e` of head `h` among the result's columns. -/
def col (h : Fin 8) (e : Fin 512) : Fin 4096 := ⟨512 * h.val + e.val, by omega⟩

/-- One head's block of results within the whole block. -/
theorem gOut_at (k h : Fin 8) (y : S256x4096.Idx) (x : S256x512.Idx) (t : Fin 256) (e : Fin 512)
    (h0 : (y 0).val = x 0) (h1 : (y 1).val = 512 * k.val + x 1) (hx : (x 1).val < 512)
    (hy : y = ix2 t (col h e)) :
    gOut x0 x1 x2 x3 x4 x5 xs0 xs1 k x = gOut x0 x1 x2 x3 x4 x5 xs0 xs1 h (ix2 t e) := by
  subst hy
  have e1 : 512 * h.val + e.val = 512 * k.val + (x 1).val := h1
  have e0 : t.val = (x 0).val := h0
  obtain rfl : h = k := Fin.ext (by omega)
  congr 1
  funext a
  match a with
  | 0 => exact Fin.ext e0.symm
  | 1 => exact Fin.ext (by show (x 1).val = e.val; omega)

/-- One head's memory within the carried memory. -/
theorem gC_at (k h : Fin 8) (y : S8x256x640.Idx) (x : S1x256x640.Idx) (d : Fin 256) (e : Fin 640)
    (h0 : (y 0).val = k.val + (x 0).val) (hx : (x 0).val < 1) (h1 : (y 1).val = x 1) (h2 : (y 2).val = x 2)
    (hy : y = ix3 h d e) :
    gC x1 x2 x4 xs0 xs1 k x = gC x1 x2 x4 xs0 xs1 h (ix3 0 d e) := by
  subst hy
  have e0 : h.val = k.val + (x 0).val := h0
  obtain rfl : h = k := Fin.ext (by omega)
  congr 1
  funext a
  match a with
  | 0 => exact Fin.ext (by show (x 0).val = 0; omega)
  | 1 => exact Fin.ext h1.symm
  | 2 => exact Fin.ext h2.symm

/-- One head's stabiliser within the carried ones. -/
theorem gM_at (k h : Fin 8) (y : S8x1x1.Idx) (x : S1x1x1.Idx)
    (h0 : (y 0).val = k.val + (x 0).val) (hx : (x 0).val < 1) (h1 : (y 1).val = x 1) (h2 : (y 2).val = x 2)
    (hy : y = ix3 h 0 0) :
    gM x4 xs1 k x = gM x4 xs1 h (ix3 0 0 0) := by
  subst hy
  have e0 : h.val = k.val + (x 0).val := h0
  obtain rfl : h = k := Fin.ext (by omega)
  congr 1
  funext a
  match a with
  | 0 => exact Fin.ext (by show (x 0).val = 0; omega)
  | 1 => exact Fin.ext h1.symm
  | 2 => exact Fin.ext h2.symm

/-! ## What the body stores -/

variable (c : Dev nD) (i : grid0.Coords) (arg2 : Memref sig .tc .vmem S256x2048 .bf16) (harg2 : arg2.IsWhole)
  (arg3 : Memref sig .tc .vmem S256x2048 .bf16) (harg3 : arg3.IsWhole) (arg4 : Memref sig .tc .vmem S256x4096 .bf16) (harg4 : arg4.IsWhole)
  (arg5 : Memref sig .tc .vmem S256x4096 .bf16) (harg5 : arg5.IsWhole) (arg6 : Memref sig .tc .vmem S256x128 .f32) (harg6 : arg6.IsWhole)
  (arg7 : Memref sig .tc .vmem S16x256 .f32) (harg7 : arg7.IsWhole) (arg8 : Memref sig .tc .vmem S256x4096 .bf16) (harg8 : arg8.IsWhole)
  (arg9 : Memref sig .tc .vmem S8x256x640 .f32) (harg9 : arg9.IsWhole) (arg10 : Memref sig .tc .vmem S8x1x1 .f32) (harg10 : arg10.IsWhole)
  (hc1 : ¬cond0_0 i) (hc0 : cond0_0 i)

/-- The results stored at a later chunk. -/
theorem outB (h : Fin 8) (t : Fin 256) (e : Fin 512) :
    out0_B_6 c i arg2 harg2 arg3 harg3 arg4 harg4 arg5 harg5 arg6 harg6 arg7 harg7 arg8 harg8 arg9 harg9 arg10 harg10 hc1
      x0 x1 x2 x3 x4 x5 xs0 xs1 (ix2 t (col h e)) = gOut x0 x1 x2 x3 x4 x5 xs0 xs1 h (ix2 t e) := by
  generalize hy : (ix2 t (col h e) : S256x4096.Idx) = y
  frame_out
  canon_tiles x h
  · exact gOut_at x0 x1 x2 x3 x4 x5 xs0 xs1 7 h y x t e h0 h1 x1_lt hy.symm
  · exact gOut_at x0 x1 x2 x3 x4 x5 xs0 xs1 6 h y x t e h0 h1 x1_lt hy.symm
  · exact gOut_at x0 x1 x2 x3 x4 x5 xs0 xs1 5 h y x t e h0 h1 x1_lt hy.symm
  · exact gOut_at x0 x1 x2 x3 x4 x5 xs0 xs1 4 h y x t e h0 h1 x1_lt hy.symm
  · exact gOut_at x0 x1 x2 x3 x4 x5 xs0 xs1 3 h y x t e h0 h1 x1_lt hy.symm
  · exact gOut_at x0 x1 x2 x3 x4 x5 xs0 xs1 2 h y x t e h0 h1 x1_lt hy.symm
  · exact gOut_at x0 x1 x2 x3 x4 x5 xs0 xs1 1 h y x t e h0 h1 x1_lt hy.symm
  · exact gOut_at x0 x1 x2 x3 x4 x5 xs0 xs1 0 h y x t e h0 (by simpa using h1) x1_lt hy.symm

/-- The memory carried on from a later chunk. -/
theorem memB (h : Fin 8) (d : Fin 256) (e : Fin 640) :
    sout0_B_0 c i arg2 harg2 arg3 harg3 arg4 harg4 arg5 harg5 arg6 harg6 arg7 harg7 arg8 harg8 arg9 harg9 arg10 harg10 hc1
      x0 x1 x2 x3 x4 x5 xs0 xs1 (ix3 h d e) = gC x1 x2 x4 xs0 xs1 h (ix3 0 d e) := by
  generalize hy : (ix3 h d e : S8x256x640.Idx) = y
  frame_out
  canon_tiles x h
  · exact gC_at x1 x2 x4 xs0 xs1 7 h y x d e h0 x0_lt h1 h2 hy.symm
  · exact gC_at x1 x2 x4 xs0 xs1 6 h y x d e h0 x0_lt h1 h2 hy.symm
  · exact gC_at x1 x2 x4 xs0 xs1 5 h y x d e h0 x0_lt h1 h2 hy.symm
  · exact gC_at x1 x2 x4 xs0 xs1 4 h y x d e h0 x0_lt h1 h2 hy.symm
  · exact gC_at x1 x2 x4 xs0 xs1 3 h y x d e h0 x0_lt h1 h2 hy.symm
  · exact gC_at x1 x2 x4 xs0 xs1 2 h y x d e h0 x0_lt h1 h2 hy.symm
  · exact gC_at x1 x2 x4 xs0 xs1 1 h y x d e h0 x0_lt h1 h2 hy.symm
  · exact gC_at x1 x2 x4 xs0 xs1 0 h y x d e (by simpa using h0) x0_lt h1 h2 hy.symm

/-- The stabilisers carried on from a later chunk. -/
theorem stabB (h : Fin 8) :
    sout0_B_1 c i arg2 harg2 arg3 harg3 arg4 harg4 arg5 harg5 arg6 harg6 arg7 harg7 arg8 harg8 arg9 harg9 arg10 harg10 hc1
      x0 x1 x2 x3 x4 x5 xs0 xs1 (ix3 h 0 0) = gM x4 xs1 h (ix3 0 0 0) := by
  generalize hy : (ix3 h 0 0 : S8x1x1.Idx) = y
  frame_out
  canon_tiles x h
  · exact gM_at x4 xs1 7 h y x h0 x0_lt h1 h2 hy.symm
  · exact gM_at x4 xs1 6 h y x h0 x0_lt h1 h2 hy.symm
  · exact gM_at x4 xs1 5 h y x h0 x0_lt h1 h2 hy.symm
  · exact gM_at x4 xs1 4 h y x h0 x0_lt h1 h2 hy.symm
  · exact gM_at x4 xs1 3 h y x h0 x0_lt h1 h2 hy.symm
  · exact gM_at x4 xs1 2 h y x h0 x0_lt h1 h2 hy.symm
  · exact gM_at x4 xs1 1 h y x h0 x0_lt h1 h2 hy.symm
  · exact gM_at x4 xs1 0 h y x (by simpa using h0) x0_lt h1 h2 hy.symm

/-- The results stored at a first chunk. -/
theorem outA (h : Fin 8) (t : Fin 256) (e : Fin 512) :
    out0_A_6 c i arg2 harg2 arg3 harg3 arg4 harg4 arg5 harg5 arg6 harg6 arg7 harg7 arg8 harg8 arg9 harg9 arg10 harg10 hc0
      x0 x1 x2 x3 x4 x5 (ix2 t (col h e)) = gOut x0 x1 x2 x3 x4 x5 (k0_pay3 (F := Ideal)) (k0_pay4 (F := Ideal)) h (ix2 t e) := by
  generalize hy : (ix2 t (col h e) : S256x4096.Idx) = y
  frame_open
  simp (disch := decide) only [↓ View.readCov_skip, ↓ View.readCov_cons_toLoadRect, ↓ View.readCov_fill]
  frame_out
  canon_tiles x h
  · exact gOut_at x0 x1 x2 x3 x4 x5 (k0_pay3 (F := Ideal)) (k0_pay4 (F := Ideal)) 7 h y x t e h0 h1 x1_lt hy.symm
  · exact gOut_at x0 x1 x2 x3 x4 x5 (k0_pay3 (F := Ideal)) (k0_pay4 (F := Ideal)) 6 h y x t e h0 h1 x1_lt hy.symm
  · exact gOut_at x0 x1 x2 x3 x4 x5 (k0_pay3 (F := Ideal)) (k0_pay4 (F := Ideal)) 5 h y x t e h0 h1 x1_lt hy.symm
  · exact gOut_at x0 x1 x2 x3 x4 x5 (k0_pay3 (F := Ideal)) (k0_pay4 (F := Ideal)) 4 h y x t e h0 h1 x1_lt hy.symm
  · exact gOut_at x0 x1 x2 x3 x4 x5 (k0_pay3 (F := Ideal)) (k0_pay4 (F := Ideal)) 3 h y x t e h0 h1 x1_lt hy.symm
  · exact gOut_at x0 x1 x2 x3 x4 x5 (k0_pay3 (F := Ideal)) (k0_pay4 (F := Ideal)) 2 h y x t e h0 h1 x1_lt hy.symm
  · exact gOut_at x0 x1 x2 x3 x4 x5 (k0_pay3 (F := Ideal)) (k0_pay4 (F := Ideal)) 1 h y x t e h0 h1 x1_lt hy.symm
  · exact gOut_at x0 x1 x2 x3 x4 x5 (k0_pay3 (F := Ideal)) (k0_pay4 (F := Ideal)) 0 h y x t e h0 (by simpa using h1) x1_lt hy.symm

/-- The memory carried on from a first chunk. -/
theorem memA (h : Fin 8) (d : Fin 256) (e : Fin 640) :
    sout0_A_0 c i arg2 harg2 arg3 harg3 arg4 harg4 arg5 harg5 arg6 harg6 arg7 harg7 arg8 harg8 arg9 harg9 arg10 harg10 hc0
      x0 x1 x2 x3 x4 x5 (ix3 h d e) = gC x1 x2 x4 (k0_pay3 (F := Ideal)) (k0_pay4 (F := Ideal)) h (ix3 0 d e) := by
  generalize hy : (ix3 h d e : S8x256x640.Idx) = y
  frame_open
  simp (disch := decide) only [↓ View.readCov_skip, ↓ View.readCov_cons_toLoadRect, ↓ View.readCov_fill]
  frame_out
  refine (canon_hide [_] y [_, _, _, _, _, _, _, _] (View.cover_of_tiled_head _ _ _ rfl y)).trans ?_
  canon_tiles x h
  · exact gC_at x1 x2 x4 (k0_pay3 (F := Ideal)) (k0_pay4 (F := Ideal)) 7 h y x d e h0 x0_lt h1 h2 hy.symm
  · exact gC_at x1 x2 x4 (k0_pay3 (F := Ideal)) (k0_pay4 (F := Ideal)) 6 h y x d e h0 x0_lt h1 h2 hy.symm
  · exact gC_at x1 x2 x4 (k0_pay3 (F := Ideal)) (k0_pay4 (F := Ideal)) 5 h y x d e h0 x0_lt h1 h2 hy.symm
  · exact gC_at x1 x2 x4 (k0_pay3 (F := Ideal)) (k0_pay4 (F := Ideal)) 4 h y x d e h0 x0_lt h1 h2 hy.symm
  · exact gC_at x1 x2 x4 (k0_pay3 (F := Ideal)) (k0_pay4 (F := Ideal)) 3 h y x d e h0 x0_lt h1 h2 hy.symm
  · exact gC_at x1 x2 x4 (k0_pay3 (F := Ideal)) (k0_pay4 (F := Ideal)) 2 h y x d e h0 x0_lt h1 h2 hy.symm
  · exact gC_at x1 x2 x4 (k0_pay3 (F := Ideal)) (k0_pay4 (F := Ideal)) 1 h y x d e h0 x0_lt h1 h2 hy.symm
  · exact gC_at x1 x2 x4 (k0_pay3 (F := Ideal)) (k0_pay4 (F := Ideal)) 0 h y x d e (by simpa using h0) x0_lt h1 h2 hy.symm

/-- The stabilisers carried on from a first chunk. -/
theorem stabA (h : Fin 8) :
    sout0_A_1 c i arg2 harg2 arg3 harg3 arg4 harg4 arg5 harg5 arg6 harg6 arg7 harg7 arg8 harg8 arg9 harg9 arg10 harg10 hc0
      x0 x1 x2 x3 x4 x5 (ix3 h 0 0) = gM x4 (k0_pay4 (F := Ideal)) h (ix3 0 0 0) := by
  generalize hy : (ix3 h 0 0 : S8x1x1.Idx) = y
  frame_open
  simp (disch := decide) only [↓ View.readCov_skip, ↓ View.readCov_cons_toLoadRect, ↓ View.readCov_fill]
  frame_out
  refine (canon_hide [_] y [_, _, _, _, _, _, _, _] (View.cover_of_tiled_head _ _ _ rfl y)).trans ?_
  canon_tiles x h
  · exact gM_at x4 (k0_pay4 (F := Ideal)) 7 h y x h0 x0_lt h1 h2 hy.symm
  · exact gM_at x4 (k0_pay4 (F := Ideal)) 6 h y x h0 x0_lt h1 h2 hy.symm
  · exact gM_at x4 (k0_pay4 (F := Ideal)) 5 h y x h0 x0_lt h1 h2 hy.symm
  · exact gM_at x4 (k0_pay4 (F := Ideal)) 4 h y x h0 x0_lt h1 h2 hy.symm
  · exact gM_at x4 (k0_pay4 (F := Ideal)) 3 h y x h0 x0_lt h1 h2 hy.symm
  · exact gM_at x4 (k0_pay4 (F := Ideal)) 2 h y x h0 x0_lt h1 h2 hy.symm
  · exact gM_at x4 (k0_pay4 (F := Ideal)) 1 h y x h0 x0_lt h1 h2 hy.symm
  · exact gM_at x4 (k0_pay4 (F := Ideal)) 0 h y x (by simpa using h0) x0_lt h1 h2 hy.symm

end Cert.Mlstm

end
-- ==== Proof.KernelPoint.lean ====
/-
  One grid point of the kernel. Grid point `n` handles chunk `n % 16` (256 tokens) of sequence `n / 16`; what it carries
  in its scratch is the memory after that chunk, divided by the exponential of a stabiliser, for each head. A point
  entered with the memory before its chunk stores its block of `spec` and carries on the memory after it.
-/
module

public import proofs.«01_k».proof.Proof.Body
public import Idealize.ShloMosaic.Lib.StableHlo.ReadAt

@[expose] public section

set_option maxRecDepth 16384

noncomputable section

open Idealize.ShloMosaic Idealize.ShloMosaic.TcCoe Idealize.SL.Sem

namespace Cert.Mlstm
open Cert.KernelIdeal Cert.KernelIdeal.Gen Cert.KernelIdeal.Value

/-! ## A head's slices at an index -/

section Slices
variable (x4 : Vec Ideal S256x128 .f32) (x5 : Vec Ideal S16x256 .f32)

/-- A head's column of input gates. -/
theorem icH_apply (h : Fin 8) (t : Fin 256) : icH x4 h (ix2 t 0) = x4 (ix2 t ⟨h.val, by omega⟩) := by
  pointwise [icH, k0_pay7]

/-- A head's row of input gates. -/
theorem irH_apply (h : Fin 8) (t : Fin 256) : irH x5 h (ix2 0 t) = x5 (ix2 ⟨h.val, by omega⟩ t) := by
  pointwise [irH, k0_pay8]

/-- The running sum the body forms as one product with a triangle of ones, in three parts of the summands: over real
    numbers the second and third part are zero. -/
theorem three_parts (f : ℕ → ℝ) (T : ℕ) (t : Fin 256) (y : Fin 256 → EReal) (hy : ∀ x, y x = ((f (T + x) : ℝ) : EReal)) :
    (∑ x : Fin 256, Scalar.select (IntOp.cmpi CmpIPredicate.sle (BitVec.ofNat 32 x.val) (BitVec.ofNat 32 t.val)) (y x) 0
      + ∑ x : Fin 256, Scalar.select (IntOp.cmpi CmpIPredicate.sle (BitVec.ofNat 32 x.val) (BitVec.ofNat 32 t.val)) (y x - y x) 0)
      + ∑ x : Fin 256, Scalar.select (IntOp.cmpi CmpIPredicate.sle (BitVec.ofNat 32 x.val) (BitVec.ofNat 32 t.val))
          (y x - y x - (y x - y x)) 0
      = ((gsum f (T + t + 1) - gsum f T : ℝ) : EReal) := by
  rw [← sum_mask]
  have hs : ∀ (x : Fin 256) (z : EReal), Scalar.select (IntOp.cmpi CmpIPredicate.sle (BitVec.ofNat 32 x.val) (BitVec.ofNat 32 t.val)) z 0
      = if x.val ≤ t.val then z else 0 := fun x z => select_sle _ _ (by omega) (by omega) _ _
  have h0 : ∀ x, y x - y x = 0 := fun x => by rw [hy, ← EReal.coe_sub, sub_self, EReal.coe_zero]
  simp only [hs, h0, sub_zero, ite_self, Finset.sum_const_zero, add_zero]
  rw [← sum_coe]
  refine Finset.sum_congr rfl fun x _ => ?_
  by_cases h : x.val ≤ t.val
  · rw [if_pos h, if_pos h, hy]
  · rw [if_neg h, if_neg h, EReal.coe_zero]

/-- A head's column of summed forget gates. -/
theorem bcH_apply (f : ℕ → ℝ) (T : ℕ) (h : Fin 8) (hf : ∀ t : Fin 256, x4 (ix2 t ⟨h.val + 8, by omega⟩) = ((f (T + t) : ℝ) : EReal))
    (t : Fin 256) : bcH x4 h (ix2 t 0) = ((gsum f (T + t + 1) - gsum f T : ℝ) : EReal) := by
  pointwise [bcH, k0_pay9, k0_pay7, k0_pay5]
  exact three_parts f T t _ hf

/-- A head's row of summed forget gates. -/
theorem brH_apply (f : ℕ → ℝ) (T : ℕ) (h : Fin 8) (hf : ∀ t : Fin 256, x5 (ix2 ⟨h.val + 8, by omega⟩ t) = ((f (T + t) : ℝ) : EReal))
    (t : Fin 256) : brH x5 h (ix2 0 t) = ((gsum f (T + t + 1) - gsum f T : ℝ) : EReal) := by
  pointwise [brH, k0_pay6, k0_pay13, k0_pay14, k0_pay12, k0_pay11, k0_pay10, k0_pay15, k0_pay8]
  exact three_parts f T t _ hf

/-- A head's columns of q or k. -/
theorem qkH_apply (x : Vec Ideal S256x2048 .bf16) (h : Fin 8) (t : Fin 256) (d : Fin 256) :
    qkH x h (ix2 t d) = x (ix2 t ⟨256 * h.val + d.val, by omega⟩) := by
  refine View.ld_unit_apply_of x _ _ _ _ _ fun a => ?_
  match a with
  | 0 => exact (Nat.zero_add _).symm
  | 1 => rfl

/-- A head's columns of v or the output gate. -/
theorem voH_apply (x : Vec Ideal S256x4096 .bf16) (h : Fin 8) (t : Fin 256) (e : Fin 512) :
    voH x h (ix2 t e) = x (ix2 t (col h e)) := by
  refine View.ld_unit_apply_of x _ _ _ _ _ fun a => ?_
  match a with
  | 0 => exact (Nat.zero_add _).symm
  | 1 => rfl

/-- A head's carried memory. -/
theorem cH_apply (x : Vec Ideal S8x256x640 .f32) (h : Fin 8) (d : Fin 256) (e : Fin 640) :
    cH x h (ix3 0 d e) = x (ix3 h d e) := by
  refine View.ld_unit_apply_of x _ _ _ _ _ fun a => ?_
  match a with
  | 0 => rfl
  | 1 => exact (Nat.zero_add _).symm
  | 2 => exact (Nat.zero_add _).symm

/-- A head's carried stabiliser. -/
theorem mH_apply (x : Vec Ideal S8x1x1 .f32) (h : Fin 8) : mH x h (ix3 0 0 0) = x (ix3 h 0 0) := by
  refine View.ld_unit_apply_of x _ _ _ _ _ fun a => ?_
  match a with
  | 0 => rfl
  | 1 => rfl
  | 2 => rfl

end Slices

/-! ## The blocks a point reads -/

variable (m : (ℓ : Loc nD τ sig) → Buf (Elt Ideal) ℓ) (c : Dev nD)

/-- The projections. -/
abbrev pA : (⟨2, ![8192, 12288]⟩ : Shape).Idx → EReal := m ((c : Thread nD τ).loc main_arg0)
/-- The gates. -/
abbrev gA : (⟨2, ![8192, 16]⟩ : Shape).Idx → EReal := m ((c : Thread nD τ).loc main_arg1)

/-- The block of queries that a point reads. -/
theorem ix0_0 : ∀ t : Fin cfg0.N, win0_0.index t = ![t.val, 0] := by decide +kernel
/-- The block of keys that a point reads. -/
theorem ix0_1 : ∀ t : Fin cfg0.N, win0_1.index t = ![t.val, 1] := by decide +kernel
/-- The block of values that a point reads. -/
theorem ix0_2 : ∀ t : Fin cfg0.N, win0_2.index t = ![t.val, 1] := by decide +kernel
/-- The block of output gates that a point reads. -/
theorem ix0_3 : ∀ t : Fin cfg0.N, win0_3.index t = ![t.val, 2] := by decide +kernel
/-- The block of padded gates that a point reads. -/
theorem ix0_4 : ∀ t : Fin cfg0.N, win0_4.index t = ![t.val, 0] := by decide +kernel
/-- The block of transposed gates that a point reads. -/
theorem ix0_5 : ∀ t : Fin cfg0.N, win0_5.index t = ![0, t.val] := by decide +kernel

/-- The row of the arrays that point `t` reads as its row `r`. -/
def row (t : Fin cfg0.N) (r : Fin 256) : Fin 8192 :=
  ⟨256 * t.val + r.val, by have := t.isLt; have : cfg0.N = 32 := rfl; omega⟩

/-- The block of q. -/
theorem blk_q (t : Fin cfg0.N) (r : Fin 256) (d : Fin 2048) : iblk m c 0 t (ix2 r d) = pA m c (ix2 (row t r) ⟨d.val, by omega⟩) := by
  blk_simp [iblk]
  rw [V_main_arg0]
  congr 1
  funext a
  match a with
  | 0 => exact Fin.ext (by blk_simp [ix0_0]; simp [row]; omega)
  | 1 => exact Fin.ext (by blk_simp [ix0_0])

/-- The block of k. -/
theorem blk_k (t : Fin cfg0.N) (r : Fin 256) (d : Fin 2048) : iblk m c 1 t (ix2 r d) = pA m c (ix2 (row t r) ⟨2048 + d.val, by omega⟩) := by
  blk_simp [iblk]
  rw [V_main_arg0]
  congr 1
  funext a
  match a with
  | 0 => exact Fin.ext (by blk_simp [ix0_1]; simp [row]; omega)
  | 1 => exact Fin.ext (by blk_simp [ix0_1])

/-- The block of v. -/
theorem blk_v (t : Fin cfg0.N) (r : Fin 256) (d : Fin 4096) : iblk m c 2 t (ix2 r d) = pA m c (ix2 (row t r) ⟨4096 + d.val, by omega⟩) := by
  blk_simp [iblk]
  rw [V_main_arg0]
  congr 1
  funext a
  match a with
  | 0 => exact Fin.ext (by blk_simp [ix0_2]; simp [row]; omega)
  | 1 => exact Fin.ext (by blk_simp [ix0_2])

/-- The block of the output gate. -/
theorem blk_o (t : Fin cfg0.N) (r : Fin 256) (d : Fin 4096) : iblk m c 3 t (ix2 r d) = pA m c (ix2 (row t r) ⟨8192 + d.val, by omega⟩) := by
  blk_simp [iblk]
  rw [V_main_arg0]
  congr 1
  funext a
  match a with
  | 0 => exact Fin.ext (by blk_simp [ix0_3]; simp [row]; omega)
  | 1 => exact Fin.ext (by blk_simp [ix0_3])

/-- The gates padded to 128 columns. -/
theorem V_pad (r : Fin 8192) (d : Fin 128) (hd : d.val < 16) : V m c main_v0 (ix2 r d) = gA m c (ix2 r ⟨d.val, hd⟩) := by
  unfold V
  simp only [List.flatten_cons, List.flatten_nil, List.cons_append, List.nil_append]
  after_reads_at
  rw [dif_pos hd]

/-- The gates transposed. -/
theorem V_tr (d : Fin 16) (r : Fin 8192) : V m c main_v1 (ix2 d r) = gA m c (ix2 r d) := by
  unfold V
  simp only [List.flatten_cons, List.flatten_nil, List.cons_append, List.nil_append]
  after_reads_at

/-- The block of the padded gates. -/
theorem blk_gc (t : Fin cfg0.N) (r : Fin 256) (d : Fin 128) (hd : d.val < 16) :
    iblk m c 4 t (ix2 r d) = gA m c (ix2 (row t r) ⟨d.val, hd⟩) := by
  rw [← V_pad m c _ d hd]
  blk_simp [iblk]
  congr 1
  funext a
  match a with
  | 0 => exact Fin.ext (by blk_simp [ix0_4]; simp [row]; omega)
  | 1 => exact Fin.ext (by blk_simp [ix0_4])

/-- The block of the transposed gates. -/
theorem blk_gr (t : Fin cfg0.N) (r : Fin 256) (d : Fin 16) :
    iblk m c 5 t (ix2 d r) = gA m c (ix2 (row t r) d) := by
  rw [← V_tr m c]
  blk_simp [iblk]
  congr 1
  funext a
  match a with
  | 0 => exact Fin.ext (by blk_simp [ix0_5])
  | 1 => exact Fin.ext (by blk_simp [ix0_5]; simp [row]; omega)

/-! ## The invariant -/

/-- The memory and the stabilisers carried into token `T` of sequence `b`. -/
def Carried (b T : ℕ) (xs0 : Vec Ideal S8x256x640 .f32) (xs1 : Vec Ideal S8x1x1 .f32) : Prop :=
  ∀ h : Fin 8, ∃ m0 : ℝ, xs1 (ix3 h 0 0) = (m0 : EReal) ∧ ∀ (d : Fin 256) (e : Fin 640), xs0 (ix3 h d e)
    = ((Real.exp (-m0) * mem (fG (gA m c) b h) (aG (gA m c) b h)
        (fun s => kG (pA m c) b h s d * vaug (vG (pA m c) b h) s e) T : ℝ) : EReal)

/-- Point `t`'s block of results is `spec`'s. -/
def Stored (t : Fin cfg0.N) (out : Vec Ideal S256x4096 .bf16) : Prop :=
  ∀ (h : Fin 8) (r : Fin 256) (e : Fin 512), out (ix2 r (col h e)) = spec (pA m c) (gA m c) (ix2 (row t r) (col h e))

/-- At a point entered with the memory before its chunk, each head's slices hold the real numbers meant. -/
theorem head_of (R : AllReal (pA m c) (gA m c)) (t : Fin cfg0.N) (xs0 : Vec Ideal S8x256x640 .f32) (xs1 : Vec Ideal S8x1x1 .f32)
    (K : Carried m c (t.val / 16) (256 * (t.val % 16)) xs0 xs1) (h : Fin 8) : ∃ m0 : ℝ,
    Head (fG (gA m c) (t.val / 16) h) (aG (gA m c) (t.val / 16) h) (qG (pA m c) (t.val / 16) h) (kG (pA m c) (t.val / 16) h)
      (vG (pA m c) (t.val / 16) h) (256 * (t.val % 16)) m0
      (icH (iblk m c 4 t) h) (bcH (iblk m c 4 t) h) (irH (iblk m c 5 t) h) (brH (iblk m c 5 t) h) (mH xs1 h)
      (qkH (iblk m c 0 t) h) (qkH (iblk m c 1 t) h) (voH (iblk m c 2 t) h) (cH xs0 h) := by
  obtain ⟨m0, hm, hC⟩ := K h
  have hrow : ∀ r : Fin 256, (row t r).val = 4096 * (t.val / 16) + (256 * (t.val % 16) + r.val) := fun r => by
    show 256 * t.val + r.val = _
    omega
  refine ⟨m0, ?_, ?_, ?_, ?_, ?_, ?_, ?_, ?_, ?_⟩
  · intro r
    rw [icH_apply, blk_gc m c t r _ (show h.val < 16 by omega)]
    exact rd_eq _ _ _ (R.g _ _) _ _ (hrow r) rfl
  · refine bcH_apply _ _ _ h fun r => ?_
    rw [blk_gc m c t r _ (show h.val + 8 < 16 by omega)]
    exact rd_eq _ _ _ (R.g _ _) _ _ (hrow r) (Nat.add_comm _ _)
  · intro r
    rw [irH_apply, blk_gr]
    exact rd_eq _ _ _ (R.g _ _) _ _ (hrow r) rfl
  · refine brH_apply _ _ _ h fun r => ?_
    rw [blk_gr]
    exact rd_eq _ _ _ (R.g _ _) _ _ (hrow r) (Nat.add_comm _ _)
  · rw [mH_apply, hm]
  · intro r d
    rw [qkH_apply, blk_q]
    exact rd_eq _ _ _ (R.p _ _ (show 256 * h.val + d.val < 8192 by omega)) _ _ (hrow r) rfl
  · intro r d
    rw [qkH_apply, blk_k]
    exact rd_eq _ _ _ (R.p _ _ (show 2048 + (256 * h.val + d.val) < 8192 by omega)) _ _ (hrow r) (Nat.add_assoc _ _ _).symm
  · intro r e
    rw [voH_apply, blk_v]
    exact rd_eq _ _ _ (R.p _ _ (show 4096 + (512 * h.val + e.val) < 8192 by omega)) _ _ (hrow r) (Nat.add_assoc _ _ _).symm
  · intro d e
    rw [cH_apply, hC]

/-- One point: entered with the memory before its chunk, it stores its block of `spec` and carries on the memory after it. -/
theorem point (R : AllReal (pA m c) (gA m c)) (t : Fin cfg0.N) (xs0 : Vec Ideal S8x256x640 .f32) (xs1 : Vec Ideal S8x1x1 .f32)
    (K : Carried m c (t.val / 16) (256 * (t.val % 16)) xs0 xs1)
    (out : Vec Ideal S256x4096 .bf16) (C' : Vec Ideal S8x256x640 .f32) (M' : Vec Ideal S8x1x1 .f32)
    (ho : ∀ (h : Fin 8) (r : Fin 256) (e : Fin 512), out (ix2 r (col h e))
      = gOut (iblk m c 0 t) (iblk m c 1 t) (iblk m c 2 t) (iblk m c 3 t) (iblk m c 4 t) (iblk m c 5 t) xs0 xs1 h (ix2 r e))
    (hC : ∀ (h : Fin 8) (d : Fin 256) (e : Fin 640), C' (ix3 h d e)
      = gC (iblk m c 1 t) (iblk m c 2 t) (iblk m c 4 t) xs0 xs1 h (ix3 0 d e))
    (hM : ∀ h : Fin 8, M' (ix3 h 0 0) = gM (iblk m c 4 t) xs1 h (ix3 0 0 0)) :
    Stored m c t out ∧ Carried m c (t.val / 16) (256 * (t.val % 16) + 256) C' M' := by
  refine ⟨fun h r e => ?_, fun h => ?_⟩
  · obtain ⟨m0, H⟩ := head_of m c R t xs0 xs1 K h
    rw [ho, gOut, head_out H r e, voH_apply, blk_o]
    exact (spec_at (pA m c) (gA m c) (row t r) (col h e) (t.val / 16) h (256 * (t.val % 16) + r.val) e
      (by show (256 * t.val + r.val) / 4096 = _; omega) (by show (256 * t.val + r.val) % 4096 = _; omega)
      (by show (512 * h.val + e.val) / 512 = _; omega) (by show (512 * h.val + e.val) % 512 = e.val; omega)).symm
  · obtain ⟨m0, H⟩ := head_of m c R t xs0 xs1 K h
    obtain ⟨m1, h1, h2⟩ := head_state H
    refine ⟨m1, (hM h).trans h1, fun d e => (hC h d e).trans (h2 d e)⟩

/-- Nothing is carried into a sequence. -/
theorem carried_zero (b : ℕ) : Carried m c b 0 (k0_pay3 (F := Ideal)) (k0_pay4 (F := Ideal)) := by
  intro h
  refine ⟨0, ?_, fun d e => ?_⟩
  · pointwise [k0_pay4]
    rfl
  · rw [mem_zero, mul_zero, EReal.coe_zero]
    pointwise [k0_pay3]

end Cert.Mlstm

end
-- ==== Proof.KernelArr.lean ====
/-
  The kernel's array after its run: by induction over the 32 grid points every point stores its block of `spec`.
-/
module

public import proofs.«01_k».proof.Proof.KernelPoint

@[expose] public section

set_option maxRecDepth 16384

noncomputable section

open Idealize.ShloMosaic Idealize.ShloMosaic.TcCoe Idealize.SL.Sem

namespace Cert.Mlstm
open Cert.KernelIdeal Cert.KernelIdeal.Gen Cert.KernelIdeal.Value

variable (m : (ℓ : Loc nD τ sig) → Buf (Elt Ideal) ℓ) (c : Dev nD)

/-- One step of the run at a first chunk. -/
theorem step_A (R : AllReal (pA m c) (gA m c)) (t : Fin cfg0.N)
    (acc : Vec Ideal S256x4096 .bf16 × Vec Ideal S8x256x640 .f32 × Vec Ideal S8x1x1 .f32) (h0 : t.val % 16 = 0) :
    Stored m c t (stAt0 m c t.val t.isLt acc).1 ∧ Carried m c (t.val / 16) (256 * (t.val % 16) + 256)
      (stAt0 m c t.val t.isLt acc).2.1 (stAt0 m c t.val t.isLt acc).2.2 := by
  have P := point m c R t (k0_pay3 (F := Ideal)) (k0_pay4 (F := Ideal)) (by rw [h0]; exact carried_zero m c _) _ _ _
    (outA (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0))
    (memA (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0))
    (stabA (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0))
  rw [stAt0_A m c t acc h0]
  dsimp only
  generalize_proofs at P ⊢
  exact P

/-- One step of the run at a later chunk. -/
theorem step_B (R : AllReal (pA m c) (gA m c)) (t : Fin cfg0.N)
    (acc : Vec Ideal S256x4096 .bf16 × Vec Ideal S8x256x640 .f32 × Vec Ideal S8x1x1 .f32) (h0 : ¬t.val % 16 = 0)
    (K : Carried m c (t.val / 16) (256 * (t.val % 16)) acc.2.1 acc.2.2) :
    Stored m c t (stAt0 m c t.val t.isLt acc).1 ∧ Carried m c (t.val / 16) (256 * (t.val % 16) + 256)
      (stAt0 m c t.val t.isLt acc).2.1 (stAt0 m c t.val t.isLt acc).2.2 := by
  have P := point m c R t acc.2.1 acc.2.2 K _ _ _
    (outB (iblk m c 0 t) (iblk m c 1 t) (iblk m c 2 t) (iblk m c 3 t) (iblk m c 4 t) (iblk m c 5 t) acc.2.1 acc.2.2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)))
    (memB (iblk m c 0 t) (iblk m c 1 t) (iblk m c 2 t) (iblk m c 3 t) (iblk m c 4 t) (iblk m c 5 t) acc.2.1 acc.2.2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)))
    (stabB (iblk m c 0 t) (iblk m c 1 t) (iblk m c 2 t) (iblk m c 3 t) (iblk m c 4 t) (iblk m c 5 t) acc.2.1 acc.2.2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)))
  rw [stAt0_B m c t acc h0]
  dsimp only
  generalize_proofs at P ⊢
  exact P

/-- One step of the run, whatever the case. -/
theorem step (R : AllReal (pA m c) (gA m c)) (n : ℕ) (hn : n < cfg0.N)
    (acc : Vec Ideal S256x4096 .bf16 × Vec Ideal S8x256x640 .f32 × Vec Ideal S8x1x1 .f32)
    (K : n % 16 ≠ 0 → Carried m c (n / 16) (256 * (n % 16)) acc.2.1 acc.2.2) :
    Stored m c ⟨n, hn⟩ (stAt0 m c n hn acc).1
      ∧ Carried m c (n / 16) (256 * (n % 16) + 256) (stAt0 m c n hn acc).2.1 (stAt0 m c n hn acc).2.2 := by
  by_cases h0 : n % 16 = 0
  · exact step_A m c R ⟨n, hn⟩ acc h0
  · exact step_B m c R ⟨n, hn⟩ acc h0 (K h0)

/-- Every point stores its block of `spec` and carries on the memory after its chunk. -/
theorem all_points (R : AllReal (pA m c) (gA m c)) : ∀ (j : ℕ) (hj : 0 + j < cfg0.N),
    Stored m c ⟨0 + j, hj⟩ (Pipeline.accAt (fun n h => stAt0 m c n h junk0) (stAt0 m c) 0 j hj).1
      ∧ Carried m c ((0 + j) / 16) (256 * ((0 + j) % 16) + 256)
        (Pipeline.accAt (fun n h => stAt0 m c n h junk0) (stAt0 m c) 0 j hj).2.1
        (Pipeline.accAt (fun n h => stAt0 m c n h junk0) (stAt0 m c) 0 j hj).2.2
  | 0, hj => step m c R (0 + 0) hj junk0 (fun h => absurd rfl h)
  | j + 1, hj => by
    rw [Pipeline.accAt_succ]
    refine step m c R (0 + (j + 1)) hj _ fun h => ?_
    have ih := (all_points R j (Nat.lt_of_succ_lt hj)).2
    have e1 : (0 + (j + 1)) / 16 = (0 + j) / 16 := by omega
    have e2 : 256 * ((0 + (j + 1)) % 16) = 256 * ((0 + j) % 16) + 256 := by omega
    rw [e1, e2]
    exact ih

/-- The kernel's result array. -/
theorem kernel_arr (R : AllReal (pA m c) (gA m c)) : G6 m c = spec (pA m c) (gA m c) := by
  funext i
  have hN : cfg0.N = 32 := rfl
  have i0 : (i 0).val < 8192 := (i 0).isLt
  have i1 : (i 1).val < 4096 := (i 1).isLt
  have hp : pt6Of i = (i 0).val / 256 := by show 1 * ((i 0).val / 256 - 0) + 1 * ((i 1).val / 4096 - 0) = _; omega
  have hlt : pt6Of i < cfg0.N := by rw [hp, hN]; omega
  rw [G6, dif_pos hlt]
  have S := (all_points m c R (pt6Of i) (by omega)).1 ⟨(i 1).val / 512, by omega⟩ ⟨(i 0).val % 256, by omega⟩ ⟨(i 1).val % 512, by omega⟩
  have e1 : loc6Of i = ix2 ⟨(i 0).val % 256, by omega⟩ (col ⟨(i 1).val / 512, by omega⟩ ⟨(i 1).val % 512, by omega⟩) := by
    funext a
    match a with
    | 0 => rfl
    | 1 => exact Fin.ext (by show (i 1).val % 4096 = 512 * ((i 1).val / 512) + (i 1).val % 512; omega)
  have e2 : ix2 (row ⟨0 + pt6Of i, by omega⟩ ⟨(i 0).val % 256, by omega⟩)
      (col ⟨(i 1).val / 512, by omega⟩ ⟨(i 1).val % 512, by omega⟩) = i := by
    funext a
    match a with
    | 0 => exact Fin.ext (by show 256 * (0 + pt6Of i) + (i 0).val % 256 = (i 0).val; rw [hp]; omega)
    | 1 => exact Fin.ext (by show 512 * ((i 1).val / 512) + (i 1).val % 512 = (i 1).val; omega)
  rw [e1, S, e2]

end Cert.Mlstm

end
-- ==== Proof.Cumsum.lean ====
/-
  The reference's running sum of the forget gates within a chunk: a window sum of 64 positions, padded by 63 in front.
-/
module

public import proofs.«01_k».proof.Proof.Spec

@[expose] public section

noncomputable section

namespace Cert.Mlstm

open Idealize.ShloMosaic Finset

/-- A fold by addition is a sum. -/
theorem foldl_add_eq {α : Type} (l : List α) (g : α → EReal) (v : EReal) :
    l.foldl (fun r n => r + g n) v = v + (l.map g).sum := by
  induction l generalizing v with
  | nil => simp
  | cons a l ih => simp [ih, add_assoc]

/-- The positions of a window along the last of three axes. -/
def lastAxis : (⟨3, ![1, 1, 64]⟩ : Shape).Idx ≃ Fin 64 where
  toFun w := w 2
  invFun n := ix3 0 0 n
  left_inv w := by
    funext a
    match a with
    | 0 => exact (Fin.fin_one_eq_zero _).symm
    | 1 => exact (Fin.fin_one_eq_zero _).symm
    | 2 => rfl
  right_inv _ := rfl

/-- The window sum at an index, of real numbers: the sum of all entries up to it. -/
theorem window_sum (x : (⟨3, ![2, 8, 64]⟩ : Shape).Idx → EReal) (v : (⟨0, ![]⟩ : Shape).Idx → EReal)
    (h : (⟨3, ![2, 8, 64]⟩ : Shape).ReduceWindows ![1, 1, 64] ![1, 1, 1] ![0, 0, 63] ![0, 0, 0] ⟨3, ![2, 8, 64]⟩)
    (hu : 0 < (⟨0, ![]⟩ : Shape).numel) (hv : ∀ i, v i = 0) (b : Fin 2) (r : Fin 8) (t : Fin 64) (f : ℕ → ℝ) (T : ℕ)
    (hx : ∀ s : Fin 64, x (ix3 b r s) = ((f (T + s) : ℝ) : EReal)) :
    Host.reduceWindow (· + ·) ![1, 1, 64] ![1, 1, 1] ![0, 0, 63] ![0, 0, 0] x v h hu (ix3 b r t)
      = ((gsum f (T + t + 1) - gsum f T : ℝ) : EReal) := by
  have e : ∀ (w : (⟨3, ![1, 1, 64]⟩ : Shape).Idx) (_ : Decidable (∀ a : Fin 3, (![0, 0, 63] : Fin 3 → ℕ) a ≤ (ix3 b r t (a.cast h.1.symm)).val * (![1, 1, 1] : Fin 3 → ℕ) a + (w a).val
          ∧ (ix3 b r t (a.cast h.1.symm)).val * (![1, 1, 1] : Fin 3 → ℕ) a + (w a).val - (![0, 0, 63] : Fin 3 → ℕ) a
            < (⟨3, ![2, 8, 64]⟩ : Shape).size a)),
      (if hin : ∀ a : Fin 3, (![0, 0, 63] : Fin 3 → ℕ) a ≤ (ix3 b r t (a.cast h.1.symm)).val * (![1, 1, 1] : Fin 3 → ℕ) a + (w a).val
          ∧ (ix3 b r t (a.cast h.1.symm)).val * (![1, 1, 1] : Fin 3 → ℕ) a + (w a).val - (![0, 0, 63] : Fin 3 → ℕ) a
            < (⟨3, ![2, 8, 64]⟩ : Shape).size a
        then x (fun a => ⟨_, (hin a).2⟩) else (0 : EReal))
      = if 63 - (w 2).val ≤ t.val then ((f (T + (t.val - (63 - (w 2).val))) : ℝ) : EReal) else 0 := by
    intro w _
    have w0 : (w 0).val = 0 := by have := (w 0).isLt; exact Nat.lt_one_iff.mp this
    have w1 : (w 1).val = 0 := by have := (w 1).isLt; exact Nat.lt_one_iff.mp this
    have w2 : (w 2).val < 64 := (w 2).isLt
    have tl := t.isLt
    have bl := b.isLt
    have rl := r.isLt
    by_cases hc : 63 - (w 2).val ≤ t.val
    · have hin : ∀ a : Fin 3, (![0, 0, 63] : Fin 3 → ℕ) a ≤ (ix3 b r t (a.cast h.1.symm)).val * (![1, 1, 1] : Fin 3 → ℕ) a + (w a).val
          ∧ (ix3 b r t (a.cast h.1.symm)).val * (![1, 1, 1] : Fin 3 → ℕ) a + (w a).val - (![0, 0, 63] : Fin 3 → ℕ) a
            < (⟨3, ![2, 8, 64]⟩ : Shape).size a := fun a => by
        match a with
        | 0 => exact ⟨Nat.zero_le _, by show b.val * 1 + (w 0).val - 0 < 2; omega⟩
        | 1 => exact ⟨Nat.zero_le _, by show r.val * 1 + (w 1).val - 0 < 8; omega⟩
        | 2 => exact ⟨by show 63 ≤ t.val * 1 + (w 2).val; omega, by show t.val * 1 + (w 2).val - 63 < 64; omega⟩
      rw [dif_pos hin, if_pos hc, ← hx ⟨t.val - (63 - (w 2).val), by omega⟩]
      congr 1
      funext a
      match a with
      | 0 => exact Fin.ext (by show b.val * 1 + (w 0).val - 0 = b.val; omega)
      | 1 => exact Fin.ext (by show r.val * 1 + (w 1).val - 0 = r.val; omega)
      | 2 => exact Fin.ext (by show t.val * 1 + (w 2).val - 63 = t.val - (63 - (w 2).val); omega)
    · rw [dif_neg, if_neg hc]
      intro hin
      have : 63 ≤ t.val * 1 + (w 2).val := (hin 2).1
      omega
  show (List.finRange _).foldl (fun r n => r + _) _ = _
  rw [foldl_add_eq, ← Fin.sum_univ_def, hv, zero_add]
  refine (sum_congr rfl fun n _ => e ((Shape.rowMajor ⟨3, ![1, 1, 64]⟩).symm n) _).trans ?_
  rw [Equiv.sum_comp (Shape.rowMajor ⟨3, ![1, 1, 64]⟩).symm fun w =>
    if 63 - (w 2).val ≤ t.val then ((f (T + (t.val - (63 - (w 2).val))) : ℝ) : EReal) else 0]
  refine (Equiv.sum_comp lastAxis fun n : Fin 64 => if 63 - n.val ≤ t.val then ((f (T + (t.val - (63 - n.val))) : ℝ) : EReal) else 0).trans ?_
  rw [Fin.sum_univ_eq_sum_range (fun n => if 63 - n ≤ t.val then ((f (T + (t.val - (63 - n))) : ℝ) : EReal) else 0) 64,
    ← sum_range_reflect, add_assoc, gsum_add, ← sum_range_reflect (fun u => f (T + u)) (t.val + 1), ← sum_coe]
  have tl := t.isLt
  rw [← sum_subset (range_subset_range.mpr (show t.val + 1 ≤ 64 by omega)) fun n hn hs => by
    have h1 := mem_range.mp hn
    have h2 : ¬n < t.val + 1 := fun h => hs (mem_range.mpr h)
    rw [if_neg (by omega)]]
  refine sum_congr rfl fun n hn => ?_
  have h1 := mem_range.mp hn
  rw [if_pos (by omega)]
  congr 4
  omega

end Cert.Mlstm

end
-- ==== Proof.RefChunk.lean ====
/-
  One trip of the reference's scan, a chunk of 64 tokens: at a state that holds the memory before the chunk, divided by the
  exponential of a stabiliser, the trip's values are the hidden values of its tokens and the memory after it.
-/
module

public import proofs.«01_k».proof.Proof.Cumsum
public import proofs.«01_k».proof.Proof.Gen.ReferenceIdeal.Step
public import Idealize.ShloMosaic.Lib.DynamicIndex
public import Idealize.ShloMosaic.Lib.Pipeline.Value

@[expose] public section

set_option maxRecDepth 16384

noncomputable section

open Idealize.ShloMosaic Idealize.ShloMosaic.TcCoe Idealize.SL.Sem

namespace Cert.Mlstm
open Cert.ReferenceIdeal Cert.ReferenceIdeal.Gen Cert.ReferenceIdeal.Step

/-- A chunk's number as a word. -/
theorem toInt_of_lt (j : ℕ) (hj : j < 64) : (BitVec.ofNat 32 j).toInt = (j : Int) := by
  rw [BitVec.toInt_eq_toNat_of_lt (by simp; omega)]
  simp; omega

variable (j : ℕ) (hj : j < 64) (s : State Ideal)
include hj

/-- The chunk of q. -/
theorem b5_apply (b : Fin 2) (h : Fin 8) (t : Fin 64) (d : Fin 256) :
    b5 j s (ix4 b h t d) = s.main_v32_0 (ix5 ⟨j, hj⟩ b h t d) := by
  have e : b4 j s = extractStridedSlice S1x2x8x64x256 ![j, 0, 0, 0, 0] s.main_v32_0
      ⟨rfl, fun a => by match a with | 0 => show j + 1 ≤ 64; omega | 1 | 2 | 3 | 4 => exact Nat.le_refl _⟩ :=
    Host.dynamicSlice_eq_extractStridedSlice _ _ _ _ _ _ fun a => by
      match a with
      | 0 => exact toInt_of_lt j hj
      | 1 | 2 | 3 | 4 => rfl
  pointwise [b5, e]

/-- The chunk of k. -/
theorem b11_apply (b : Fin 2) (h : Fin 8) (t : Fin 64) (d : Fin 256) :
    b11 j s (ix4 b h t d) = s.main_v32_1 (ix5 ⟨j, hj⟩ b h t d) := by
  have e : b10 j s = extractStridedSlice S1x2x8x64x256 ![j, 0, 0, 0, 0] s.main_v32_1
      ⟨rfl, fun a => by match a with | 0 => show j + 1 ≤ 64; omega | 1 | 2 | 3 | 4 => exact Nat.le_refl _⟩ :=
    Host.dynamicSlice_eq_extractStridedSlice _ _ _ _ _ _ fun a => by
      match a with
      | 0 => exact toInt_of_lt j hj
      | 1 | 2 | 3 | 4 => rfl
  pointwise [b11, e]

/-- The chunk of v. -/
theorem b17_apply (b : Fin 2) (h : Fin 8) (t : Fin 64) (d : Fin 512) :
    b17 j s (ix4 b h t d) = s.main_v32_2 (ix5 ⟨j, hj⟩ b h t d) := by
  have e : b16 j s = extractStridedSlice S1x2x8x64x512 ![j, 0, 0, 0, 0] s.main_v32_2
      ⟨rfl, fun a => by match a with | 0 => show j + 1 ≤ 64; omega | 1 | 2 | 3 | 4 => exact Nat.le_refl _⟩ :=
    Host.dynamicSlice_eq_extractStridedSlice _ _ _ _ _ _ fun a => by
      match a with
      | 0 => exact toInt_of_lt j hj
      | 1 | 2 | 3 | 4 => rfl
  pointwise [b17, e]

/-- The chunk of input gates. -/
theorem b22_apply (b : Fin 2) (h : Fin 8) (t : Fin 64) :
    b22 j s (ix3 b h t) = s.main_v32_3 (ix4 ⟨j, hj⟩ b h t) := by
  have e : b21 j s = extractStridedSlice S1x2x8x64 ![j, 0, 0, 0] s.main_v32_3
      ⟨rfl, fun a => by match a with | 0 => show j + 1 ≤ 64; omega | 1 | 2 | 3 => exact Nat.le_refl _⟩ :=
    Host.dynamicSlice_eq_extractStridedSlice _ _ _ _ _ _ fun a => by
      match a with
      | 0 => exact toInt_of_lt j hj
      | 1 | 2 | 3 => rfl
  pointwise [b22, e]

/-- The chunk of forget gates. -/
theorem b27_apply (b : Fin 2) (h : Fin 8) (t : Fin 64) :
    b27 j s (ix3 b h t) = s.main_v32_4 (ix4 ⟨j, hj⟩ b h t) := by
  have e : b26 j s = extractStridedSlice S1x2x8x64 ![j, 0, 0, 0] s.main_v32_4
      ⟨rfl, fun a => by match a with | 0 => show j + 1 ≤ 64; omega | 1 | 2 | 3 => exact Nat.le_refl _⟩ :=
    Host.dynamicSlice_eq_extractStridedSlice _ _ _ _ _ _ fun a => by
      match a with
      | 0 => exact toInt_of_lt j hj
      | 1 | 2 | 3 => rfl
  pointwise [b27, e]

/-- The hidden values so far, with the chunk's put in. -/
theorem b112_apply (j' : Fin 64) (b : Fin 2) (h : Fin 8) (t : Fin 64) (e : Fin 512) :
    b112 j s (ix5 j' b h t e) = if j'.val = j then b75 j s (ix4 b h t e) else s.main_v32_10 (ix5 j' b h t e) := by
  have e : b112 j s = updateSlice s.main_v32_10 (b107 j s) ![j, 0, 0, 0, 0]
      ⟨rfl, fun a => by match a with | 0 => show j + 1 ≤ 64; omega | 1 | 2 | 3 | 4 => exact Nat.le_refl _⟩ :=
    Host.dynamicUpdateSlice_eq_updateSlice _ _ _ _ _ (fun a => by
      match a with
      | 0 =>
        show (min (max ((BitVec.ofNat 32 j).toInt) 0) ((64 - 1 : ℕ) : Int)).toNat = j
        rw [toInt_of_lt j hj]; omega
      | 1 | 2 | 3 | 4 => rfl) _
  pointwise [e, b107]
  by_cases hc : j'.val = j
  · rw [dif_pos (by omega), if_pos hc]
  · rw [dif_neg (by omega), if_neg hc]

omit hj in
/-- The mask keeps the tokens up to the reading one. -/
theorem mask_apply (t x : Fin 64) : K_main_v27 (F := Ideal) (ix2 t x) = if x.val ≤ t.val then 1#1 else 0#1 := by
  pointwise [K_main_v27, K_main_v26, K_main_call0_v4, K_main_call0_v5, K_main_call0_v2, K_main_call0_v3, K_main_call0_v0, K_main_call0_v1, K_main_c, K_main_call0_c, K_main_call0_c_0]
  revert t x
  decide +kernel

omit hj in
/-- The running sum of forget gates. -/
theorem b30_apply (b : Fin 2) (h : Fin 8) (t : Fin 64) (f : ℕ → ℝ) (T : ℕ)
   (hx : ∀ t : Fin 64, b27 j s (ix3 b h t) = ((f (T + t) : ℝ) : EReal)) :
    b30 j s (ix3 b h t) = ((gsum f (T + t + 1) - gsum f T : ℝ) : EReal) := by
  unfold b30
  refine (window_sum (b27 j s) (b29 j s) reduceWindows_S2x8x64_S2x8x64_w1s1p0_0_w1s1p0_0_w64s1p63_0 h_S_ ?_ b h t f T hx)
  intro i
  pointwise [b29, b28]

omit hj
/-- What a trip reads: its chunk's real numbers, and the state entered with. -/
structure Trip (b : Fin 2) (h : Fin 8) (f a : ℕ → ℝ) (q k : ℕ → Fin 256 → ℝ) (v : ℕ → Fin 512 → ℝ) (T : ℕ) (m0 : ℝ) : Prop where
  hq : ∀ t d, b5 j s (ix4 b h t d) = ((q (T + t.val) d : ℝ) : EReal)
  hk : ∀ t d, b11 j s (ix4 b h t d) = ((k (T + t.val) d : ℝ) : EReal)
  hv : ∀ t e, b17 j s (ix4 b h t e) = ((v (T + t.val) e : ℝ) : EReal)
  ha : ∀ t, b22 j s (ix3 b h t) = ((a (T + t.val) : ℝ) : EReal)
  hf : ∀ t, b27 j s (ix3 b h t) = ((f (T + t.val) : ℝ) : EReal)
  hm : s.main_v32_9 (ix2 b h) = (m0 : EReal)
  hC : ∀ d e, s.main_v32_7 (ix4 b h d e) = ((Real.exp (-m0) * mem f a (fun s => k s d * v s e) T : ℝ) : EReal)
  hn : ∀ d, s.main_v32_8 (ix3 b h d) = ((Real.exp (-m0) * mem f a (fun s => k s d) T : ℝ) : EReal)

variable {j s} {b : Fin 2} {h : Fin 8} {f a : ℕ → ℝ} {q k : ℕ → Fin 256 → ℝ} {v : ℕ → Fin 512 → ℝ} {T : ℕ} {m0 : ℝ}

/-- The running sum of forget gates. -/
theorem Trip.g (H : Trip j s b h f a q k v T m0) (t : Fin 64) :
    b30 j s (ix3 b h t) = ((gsum f (T + t + 1) - gsum f T : ℝ) : EReal) := b30_apply j s b h t f T H.hf

/-- The stabilised decay of the state entered with. -/
theorem Trip.decay (H : Trip j s b h f a q k v T m0) (t : Fin 64) :
    b46 j s (ix3 b h t) = ((gsum f (T + t + 1) - gsum f T + m0 : ℝ) : EReal) := by
  pointwise [b46, b45, b44]
  rw [H.g, H.hm, ← EReal.coe_add]

/-- The masked weights' exponents. -/
theorem Trip.weight (H : Trip j s b h f a q k v T m0) (t x : Fin 64) : b43 j s (ix4 b h t x)
    = if x ≤ t then ((gsum f (T + t + 1) - gsum f T + (a (T + x) - (gsum f (T + x + 1) - gsum f T)) : ℝ) : EReal) else ⊥ := by
  have e : b43 j s (ix4 b h t x) = Scalar.select (K_main_v27 (F := Ideal) (ix2 t x))
      (b30 j s (ix3 b h t) - b30 j s (ix3 b h x) + b22 j s (ix3 b h x)) (Ideal.ofBits .f32 4286578688#32) := by
    pointwise [b43, b42, b41, b40, b39, b38, b37, b36, b35, b34, b33, b32, b31]
  rw [e, mask_apply, H.g, H.g, H.ha, ofBits_negInf, ← EReal.coe_sub, ← EReal.coe_add]
  by_cases hc : x.val ≤ t.val
  · rw [if_pos hc, if_pos (show x ≤ t from hc)]
    show ((_ : ℝ) : EReal) = _
    congr 1
    ring
  · rw [if_neg hc, if_neg (show ¬x ≤ t from hc)]
    rfl

/-- A token's stabiliser is a real number. -/
theorem Trip.stab (H : Trip j s b h f a q k v T m0) (t : Fin 64) : ∃ r : ℝ, b49 j s (ix3 b h t) = (r : EReal) := by
  pointwise [b49, b48, b47]
  rw [H.decay, ofBits_negInf]
  simp only [H.weight]
  exact exists_max _ _ fun x => mask_ne_top _ _

/-- The trip's hidden values. -/
theorem Trip.out (H : Trip j s b h f a q k v T m0) (t : Fin 64) (e : Fin 512) :
    b75 j s (ix4 b h t e) = ((hid f a q k v (T + t) e : ℝ) : EReal) := by
  obtain ⟨r, hr⟩ := H.stab t
  pointwise [b75, b74, b73, b72, b71, b70, b69, b68, b67, b66, b65, b64, b63, b62, b61, b60, b59, b58, b57, b56, b55, b54, b53, b52, b51, b50]
  simp only [hr, H.decay, H.weight, H.hq, H.hk, H.hv, H.hC, H.hn, exp_mask, exp_sub_coe, ← EReal.coe_mul, sum_coe, ← EReal.coe_add]
  have hN : ∀ x : ℕ → ℝ, Real.exp (gsum f (T + t + 1) - gsum f T + m0 - r)
        * (∑ d, q (T + t) d * (Real.exp (-m0) * mem f a (fun s => k s d * x s) T))
      + ∑ s : Fin 64, (∑ d, q (T + t) d * k (T + s) d)
        * (if s ≤ t then Real.exp (gsum f (T + t + 1) - gsum f T + (a (T + s) - (gsum f (T + s + 1) - gsum f T)) - r) else 0)
        * x (T + s) = Real.exp (-r) * readout f a x q k (T + t) := by
    intro x
    rw [readout, ← read_step f a x (q (T + t)) k T 64 t m0 r, Finset.mul_sum]
    congr 1
    exact Finset.sum_congr rfl fun d _ => by ring
  have hv := hN fun s => v s e
  have h1 := hN fun _ => 1
  simp only [mul_one] at h1
  beta_reduce at hv
  rw [hv, h1, Ideal.absf_def, abs_coe, ← EReal.coe_neg, Ideal.exp_coe, max_coe,
    div_coe_coe _ _ (lt_of_lt_of_le (Real.exp_pos _) (le_max_right _ _)).ne', div_stab]
  rfl

/-- The stabiliser carried on is a real number. -/
theorem Trip.stabNext (H : Trip j s b h f a q k v T m0) : ∃ m1 : ℝ, b85 j s (ix2 b h) = (m1 : EReal) := by
  pointwise [b85, b84, b83, b82, b81, b80, b79, b78, b77, b76]
  simp only [H.g, H.hm, H.ha, ofBits_negInf, ← EReal.coe_add, ← EReal.coe_sub]
  exact exists_max _ _ fun x => EReal.coe_ne_top _

/-- The memory carried on. -/
theorem Trip.memNext (H : Trip j s b h f a q k v T m0) (m1 : ℝ) (hm : b85 j s (ix2 b h) = (m1 : EReal)) (d : Fin 256) (e : Fin 512) :
    b100 j s (ix4 b h d e) = ((Real.exp (-m1) * mem f a (fun s => k s d * v s e) (T + 64) : ℝ) : EReal) := by
  pointwise [b100, b99, b98, b97, b96, b95, b94, b93, b92, b91, b90, b89, b88, b87, b86, b82, b81, b80, b79, b78, b77, b76]
  simp only [hm, H.g, H.hm, H.ha, H.hk, H.hv, H.hC, exp_sub_coe, ← EReal.coe_mul, sum_coe, ← EReal.coe_add, ← EReal.coe_sub, Ideal.exp_coe]
  rw [← state_step f a (fun s => k s d * v s e) T 64 m0 m1]
  simp only [mul_assoc]
  rfl

/-- The normaliser carried on. -/
theorem Trip.normNext (H : Trip j s b h f a q k v T m0) (m1 : ℝ) (hm : b85 j s (ix2 b h) = (m1 : EReal)) (d : Fin 256) :
    b106 j s (ix3 b h d) = ((Real.exp (-m1) * mem f a (fun s => k s d) (T + 64) : ℝ) : EReal) := by
  pointwise [b106, b105, b104, b103, b102, b101, b95, b94, b93, b92, b91, b90, b89, b88, b87, b86, b82, b81, b80, b79, b78, b77, b76]
  simp only [hm, H.g, H.hm, H.ha, H.hk, H.hn, exp_sub_coe, ← EReal.coe_mul, sum_coe, ← EReal.coe_add, ← EReal.coe_sub, Ideal.exp_coe]
  rw [← state_step f a (fun s => k s d) T 64 m0 m1]
  rfl

end Cert.Mlstm

end
-- ==== Proof.RefArr.lean ====
/-
  The reference's array after its run: by induction over the 64 trips of its scan it is `spec`.
-/
module

public import proofs.«01_k».proof.Proof.RefChunk

@[expose] public section

set_option maxRecDepth 16384

noncomputable section

open Idealize.ShloMosaic Idealize.ShloMosaic.TcCoe Idealize.SL.Sem

namespace Cert.Mlstm
open Cert.ReferenceIdeal Cert.ReferenceIdeal.Gen Cert.ReferenceIdeal.Step

variable (p : (⟨2, ![8192, 12288]⟩ : Shape).Idx → EReal) (g : (⟨2, ![8192, 16]⟩ : Shape).Idx → EReal)

/-- The row of the arrays a chunk's token is in. -/
def rowR (j : Fin 64) (b : Fin 2) (t : Fin 64) : Fin 8192 := ⟨b.val * 4096 + (j.val * 64 + t.val), by omega⟩

/-- q, by chunks. -/
theorem q_apply (j : Fin 64) (b : Fin 2) (h : Fin 8) (t : Fin 64) (d : Fin 256) :
    A_main_v17 (F := Ideal) p g (ix5 j b h t d) = p (ix2 (rowR j b t) ⟨h.val * 256 + d.val, by omega⟩) := by
  pointwise [A_main_v17, A_main_v16, A_main_v6, A_main_v5, A_main_v2, A_main_v1, A_main_v0]
  rfl

/-- k, by chunks. -/
theorem k_apply (j : Fin 64) (b : Fin 2) (h : Fin 8) (t : Fin 64) (d : Fin 256) :
    A_main_v19 (F := Ideal) p g (ix5 j b h t d) = p (ix2 (rowR j b t) ⟨2048 + (h.val * 256 + d.val), by omega⟩) := by
  pointwise [A_main_v19, A_main_v18, A_main_v8, A_main_v7, A_main_v3, A_main_v1, A_main_v0]
  rfl

/-- v, by chunks. -/
theorem v_apply (j : Fin 64) (b : Fin 2) (h : Fin 8) (t : Fin 64) (e : Fin 512) :
    A_main_v21 (F := Ideal) p g (ix5 j b h t e) = p (ix2 (rowR j b t) ⟨4096 + (h.val * 512 + e.val), by omega⟩) := by
  pointwise [A_main_v21, A_main_v20, A_main_v10, A_main_v9, A_main_v4, A_main_v1, A_main_v0]
  rfl

/-- The input gates, by chunks. -/
theorem a_apply (j : Fin 64) (b : Fin 2) (h : Fin 8) (t : Fin 64) :
    A_main_v23 (F := Ideal) p g (ix4 j b h t) = g (ix2 (rowR j b t) ⟨h.val, by omega⟩) := by
  pointwise [A_main_v23, A_main_v22, A_main_v13, A_main_v12, A_main_v11]
  rfl

/-- The forget gates, by chunks. -/
theorem f_apply (j : Fin 64) (b : Fin 2) (h : Fin 8) (t : Fin 64) :
    A_main_v25 (F := Ideal) p g (ix4 j b h t) = g (ix2 (rowR j b t) ⟨8 + h.val, by omega⟩) := by
  pointwise [A_main_v25, A_main_v24, A_main_v15, A_main_v14, A_main_v11]
  rfl

/-- What a state holds after `n` trips. -/
structure Inv (n : ℕ) (s : State Ideal) : Prop where
  c0 : s.main_v32_0 = A_main_v17 (F := Ideal) p g
  c1 : s.main_v32_1 = A_main_v19 (F := Ideal) p g
  c2 : s.main_v32_2 = A_main_v21 (F := Ideal) p g
  c3 : s.main_v32_3 = A_main_v23 (F := Ideal) p g
  c4 : s.main_v32_4 = A_main_v25 (F := Ideal) p g
  st : ∀ (b : Fin 2) (h : Fin 8), ∃ m0 : ℝ, s.main_v32_9 (ix2 b h) = (m0 : EReal)
    ∧ (∀ d e, s.main_v32_7 (ix4 b h d e) = ((Real.exp (-m0)
        * mem (fG g b h) (aG g b h) (fun s => kG p b h s d * vG p b h s e) (64 * n) : ℝ) : EReal))
    ∧ ∀ d, s.main_v32_8 (ix3 b h d) = ((Real.exp (-m0) * mem (fG g b h) (aG g b h) (fun s => kG p b h s d) (64 * n) : ℝ) : EReal)
  out : ∀ (j : Fin 64), j.val < n → ∀ (b : Fin 2) (h : Fin 8) (t : Fin 64) (e : Fin 512), s.main_v32_10 (ix5 j b h t e)
    = ((hid (fG g b h) (aG g b h) (qG p b h) (kG p b h) (vG p b h) (64 * j.val + t.val) e : ℝ) : EReal)

/-- Before the first trip nothing is remembered. -/
theorem inv_init : Inv p g 0 (init p g) where
  c0 := rfl
  c1 := rfl
  c2 := rfl
  c3 := rfl
  c4 := rfl
  st b h := by
    refine ⟨0, ?_, fun d e => ?_, fun d => ?_⟩
    · show K_main_v30 (F := Ideal) (ix2 b h) = _
      pointwise [K_main_v30, K_main_cst_1]
      rfl
    · rw [mul_zero, mem_zero, mul_zero, EReal.coe_zero]
      show K_main_v28 (F := Ideal) (ix4 b h d e) = _
      pointwise [K_main_v28, K_main_cst]
    · rw [mul_zero, mem_zero, mul_zero, EReal.coe_zero]
      show K_main_v29 (F := Ideal) (ix3 b h d) = _
      pointwise [K_main_v29, K_main_cst_0]
  out j hj := absurd hj (Nat.not_lt_zero _)

/-- What trip `n` reads. -/
theorem trip_of (R : AllReal p g) (n : ℕ) (hn : n < 64) (s : State Ideal) (I : Inv p g n s) (b : Fin 2) (h : Fin 8) :
    ∃ m0, Trip n s b h (fG g b h) (aG g b h) (qG p b h) (kG p b h) (vG p b h) (64 * n) m0 := by
  obtain ⟨m0, hm, hC, hN⟩ := I.st b h
  have hrow : ∀ t : Fin 64, (rowR ⟨n, hn⟩ b t).val = 4096 * b.val + (64 * n + t.val) := fun t => by
    show b.val * 4096 + (n * 64 + t.val) = _
    omega
  refine ⟨m0, ?_, ?_, ?_, ?_, ?_, hm, hC, hN⟩
  · intro t d
    rw [b5_apply n hn, I.c0, q_apply]
    exact rd_eq _ _ _ (R.p _ _ (show h.val * 256 + d.val < 8192 by omega)) _ _ (hrow t) (by show h.val * 256 + d.val = _; omega)
  · intro t d
    rw [b11_apply n hn, I.c1, k_apply]
    exact rd_eq _ _ _ (R.p _ _ (show 2048 + (h.val * 256 + d.val) < 8192 by omega)) _ _ (hrow t)
      (by show 2048 + (h.val * 256 + d.val) = _; omega)
  · intro t e
    rw [b17_apply n hn, I.c2, v_apply]
    exact rd_eq _ _ _ (R.p _ _ (show 4096 + (h.val * 512 + e.val) < 8192 by omega)) _ _ (hrow t)
      (by show 4096 + (h.val * 512 + e.val) = _; omega)
  · intro t
    rw [b22_apply n hn, I.c3, a_apply]
    exact rd_eq _ _ _ (R.g _ _) _ _ (hrow t) rfl
  · intro t
    rw [b27_apply n hn, I.c4, f_apply]
    exact rd_eq _ _ _ (R.g _ _) _ _ (hrow t) rfl

/-- One trip. -/
theorem inv_step (R : AllReal p g) (n : ℕ) (hn : n < 64) (s : State Ideal) (I : Inv p g n s) : Inv p g (n + 1) (step n s) where
  c0 := I.c0
  c1 := I.c1
  c2 := I.c2
  c3 := I.c3
  c4 := I.c4
  st b h := by
    obtain ⟨m0, H⟩ := trip_of p g R n hn s I b h
    obtain ⟨m1, h1⟩ := H.stabNext
    exact ⟨m1, h1, fun d e => H.memNext m1 h1 d e, fun d => H.normNext m1 h1 d⟩
  out j hj b h t e := by
    obtain ⟨m0, H⟩ := trip_of p g R n hn s I b h
    show b112 n s (ix5 j b h t e) = _
    rw [b112_apply n hn]
    by_cases hc : j.val = n
    · rw [if_pos hc, H.out, hc]
    · rw [if_neg hc]
      exact I.out j (by omega) b h t e

/-- The reference's result at a row and a column. -/
theorem reference_at (s : State Ideal) (I : Inv p g 64 s) (r : Fin 8192) (x : Fin 4096) :
    R_main_v56 (F := Ideal) s p (ix2 r x) = spec p g (ix2 r x) := by
  have hrl := r.isLt
  have hxl := x.isLt
  rw [spec_at p g r x (r.val / 4096) (x.val / 512) (r.val % 4096) ⟨x.val % 512, by omega⟩ rfl rfl rfl rfl]
  have O : ∀ e : Fin 512, s.main_v32_10
      (ix5 ⟨r.val % 4096 / 64, by omega⟩ ⟨r.val / 4096, by omega⟩ ⟨x.val / 512, by omega⟩ ⟨r.val % 4096 % 64, by omega⟩ e)
      = ((hid (fG g (r.val / 4096) (x.val / 512)) (aG g (r.val / 4096) (x.val / 512)) (qG p (r.val / 4096) (x.val / 512))
        (kG p (r.val / 4096) (x.val / 512)) (vG p (r.val / 4096) (x.val / 512)) (r.val % 4096) e : ℝ) : EReal) := by
    intro e
    rw [I.out _ (show r.val % 4096 / 64 < 64 by omega)]
    show ((hid _ _ _ _ _ (64 * (r.val % 4096 / 64) + r.val % 4096 % 64) e : ℝ) : EReal) = _
    rw [Nat.div_add_mod]
  pointwise [R_main_v56]
  simp only [O, ofBits_512, ofBits_eps, ← EReal.coe_mul, sum_coe]
  rw [div_coe_coe _ _ (by norm_num), ← EReal.coe_add, rsqrt_pos, ← EReal.coe_mul]
  · rfl
  · exact add_pos_of_nonneg_of_pos (mul_nonneg (Finset.sum_nonneg fun _ _ => mul_self_nonneg _) (by norm_num)) eps_pos

/-- The states, trip by trip. -/
def states : ℕ → State Ideal
  | 0 => init p g
  | n + 1 => step n (states n)

/-- What the state after `n` trips holds. -/
theorem inv_states (R : AllReal p g) : ∀ n, n ≤ 64 → Inv p g n (states p g n)
  | 0, _ => inv_init p g
  | n + 1, hn => inv_step p g R n (by omega) _ (inv_states R n (by omega))

/-- The reference's result array. -/
theorem reference_arr (R : AllReal p g) : R_main_v56 (F := Ideal) (states p g 64) p = spec p g := by
  funext i
  obtain ⟨r, x, rfl⟩ : ∃ (r : Fin 8192) (x : Fin 4096), i = ix2 r x := ⟨i 0, i 1, by
    funext a
    match a with
    | 0 => rfl
    | 1 => rfl⟩
  exact reference_at p g _ (inv_states p g R 64 (le_refl _)) r x

end Cert.Mlstm

end
-- ==== Proof.Assumed.lean ====
/-
  What the precondition says over the reals: the entries whose magnitude is below infinity are real numbers.
-/
module

public import proofs.«01_k».proof.Pre_finite
public import proofs.«01_k».proof.Proof.Spec
public import Idealize.ShloMosaic.Lib.ReduceAll

@[expose] public section

noncomputable section

namespace Cert.Mlstm

open Idealize.ShloMosaic Cert.Pre_finite

/-- The relations between shapes the precondition's operations state. -/
theorem pre_facts : Cert.Pre_finite.Facts where
  slices_S8192x12288_S8192x8192_0_0 := by decide
  bitsLt_bf16_f32 := by decide
  bcast_S_S8192x8192 := by decide
  reducesTo_S8192x8192_S_d0_1 := by decide
  h_S_ := by decide
  bcast_S_S8192x16 := by decide
  reducesTo_S8192x16_S_d0_1 := by decide

/-- The constant the magnitudes are compared with. -/
theorem ofBits_inf : Ideal.ofBits .f32 2139095040#32 = ⊤ := by simp [Ideal.ofBits, Ideal.ieee]

/-- A number whose magnitude is below infinity is real. -/
theorem real_of_abs_lt (x : EReal) (h : max x (-x) < ⊤) : ∃ y : ℝ, x = y := by
  induction x with
  | bot => simp at h
  | top => simp at h
  | coe y => exact ⟨y, rfl⟩

/-- The comparison's word is 1 where the magnitude is below infinity. -/
theorem real_of_cmp (x : EReal) (h : Ideal.cmp .olt (max x (-x)) (Ideal.ofBits .f32 2139095040#32) = 1#1) : ∃ y : ℝ, x = y := by
  rw [ofBits_inf] at h
  refine real_of_abs_lt x ?_
  by_contra hc
  have h' : BitVec.ofBool (decide (max x (-x) < ⊤)) = 1#1 := h
  rw [decide_eq_false hc] at h'
  exact absurd h' (by decide)

/-- A conjunction of two words of one bit is 1 where both are. -/
theorem both_of_and : ∀ a b : BitVec 1, a &&& b = 1#1 → a = 1#1 ∧ b = 1#1 := by decide

/-- Under the precondition the projections read and the gates are real numbers. -/
theorem allReal_of_pre [Cert.Pre_finite.Facts] (p : FVec Ideal S8192x12288 .bf16) (g : FVec Ideal S8192x16 .f32)
    (h : Cert.Pre_finite.fn (F := Ideal) p g = fun _ => 1#1) : AllReal p g := by
  have h0 := congrFun h ix0
  unfold Cert.Pre_finite.fn at h0
  dsimp only at h0
  obtain ⟨hp, hg⟩ := both_of_and _ _ h0
  haveI : Subsingleton S_.Idx := ⟨fun a b => funext fun d => absurd d.isLt (by simp)⟩
  refine ⟨fun r c hc => ?_, fun r c => ?_⟩
  · have e := Host.reduce_andi_all _ _ _ _ _ hp (ix2 r ⟨c.val, hc⟩)
    have e' := real_of_cmp _ e
    obtain ⟨y, hy⟩ := e'
    refine ⟨y, Eq.trans (congrArg p ?_) hy⟩
    funext a
    match a with
    | 0 => exact Fin.ext (by simp [ix2])
    | 1 => exact Fin.ext (by simp [ix2])
  · have e := Host.reduce_andi_all _ _ _ _ _ hg (ix2 r c)
    exact real_of_cmp _ e

end Cert.Mlstm

end
-- ==== Proof.Up.lean ====
/-
  The feed-forward part's first product. Point (i, j) of the grid multiplies 2048 rows of activations by 512 columns of the
  layer's weights, over all 4096 input features, and stores the square of the positive part.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.Up
open Cert.Kernel2Ideal Cert.Kernel2Ideal.Gen Cert.Kernel2Ideal.Value

/-- The square of the positive part of a product with layer 1's weights. -/
def want (x : (⟨2, ![8192, 4096]⟩ : Shape).Idx → EReal) (w : (⟨3, ![2, 4096, 16384]⟩ : Shape).Idx → EReal) :
    (⟨2, ![8192, 16384]⟩ : Shape).Idx → EReal := fun i =>
  max (∑ k : Fin 4096, x (ix2 (i 0) k) * w (ix3 1 k (i 1))) 0 * max (∑ k : Fin 4096, x (ix2 (i 0) k) * w (ix3 1 k (i 1))) 0

variable (m : (ℓ : Loc nD τ sig) → Buf (Elt Ideal) ℓ) (c : Dev nD)

/-- The activations. -/
abbrev xA : (⟨2, ![8192, 4096]⟩ : Shape).Idx → EReal := m ((c : Thread nD τ).loc main_arg0)
/-- The weights of both layers. -/
abbrev wA : (⟨3, ![2, 4096, 16384]⟩ : Shape).Idx → EReal := m ((c : Thread nD τ).loc main_arg1)

/-- The block of activations that a point reads. -/
theorem at_0 : ∀ t : Fin cfg0.N, win0_0.index t = ![t.val / 32, 0] := by decide +kernel
/-- The block of weights that a point reads. -/
theorem at_1 : ∀ t : Fin cfg0.N, win0_1.index t = ![1, 0, t.val % 32] := by decide +kernel
/-- The block that a point stores. -/
theorem at_2 : ∀ t : Fin cfg0.N, win0_2.index t = ![t.val / 32, t.val % 32] := by decide +kernel

/-- The body's payload at an index, the blocks read being rows and columns of the arrays. -/
theorem pay_apply (x : Vec Ideal S2048x4096 .bf16) (w : Vec Ideal S1x4096x512 .f32) (r : Fin 2048) (n : Fin 512)
    (X : (⟨2, ![8192, 4096]⟩ : Shape).Idx → EReal) (W : (⟨3, ![2, 4096, 16384]⟩ : Shape).Idx → EReal) (R : Fin 8192) (C : Fin 16384)
    (hx : ∀ k, x (ix2 r k) = X (ix2 R k)) (hw : ∀ k, w (ix3 0 k n) = W (ix3 1 k C)) :
    k0_pay1 (F := Ideal) x w (ix2 r n) = want X W (ix2 R C) := by
  have e : k0_pay1 (F := Ideal) x w (ix2 r n)
      = max (∑ k : Fin 4096, x (ix2 r k) * w (ix3 0 k n)) 0 * max (∑ k : Fin 4096, x (ix2 r k) * w (ix3 0 k n)) 0 := by
    pointwise [k0_pay1]
  have hs : (∑ k : Fin 4096, x (ix2 r k) * w (ix3 0 k n)) = ∑ k : Fin 4096, X (ix2 R k) * W (ix3 1 k C) :=
    Finset.sum_congr rfl fun k _ => congrArg₂ _ (hx k) (hw k)
  rw [e, hs]
  rfl

/-- The block of activations, read off the array. -/
theorem blk_x (t : Fin cfg0.N) (r : Fin 2048) (k : Fin 4096) (R : Fin 8192) (hR : R.val = 2048 * (t.val / 32) + r.val) :
    iblk m c 0 t (ix2 r k) = xA m c (ix2 R k) := by
  blk_simp [iblk]
  rw [V_main_arg0]
  congr 1
  funext a
  match a with
  | 0 => exact Fin.ext (by blk_simp [at_0]; omega)
  | 1 => exact Fin.ext (by blk_simp [at_0])

/-- The block of weights, read off the array. -/
theorem blk_w (t : Fin cfg0.N) (k : Fin 4096) (n : Fin 512) (C : Fin 16384) (hC : C.val = 512 * (t.val % 32) + n.val) :
    iblk m c 1 t (ix3 0 k n) = wA m c (ix3 1 k C) := by
  blk_simp [iblk]
  rw [V_main_arg1]
  congr 1
  funext a
  match a with
  | 0 => exact Fin.ext (by blk_simp [at_1]; rfl)
  | 1 => exact Fin.ext (by blk_simp [at_1])
  | 2 => exact Fin.ext (by blk_simp [at_1]; omega)

/-- The kernel's array. -/
theorem kernel_arr : (dats m 0 c).arrAt 2 cfg0.N = want (xA m c) (wA m c) := by
  refine (dats m 0 c).arrAt_eq_of_covers 2 _ (by decide +kernel) fun t hf y => ?_
  obtain ⟨r, n, rfl⟩ : ∃ (r : Fin 2048) (n : Fin 512), y = ix2 r n := ⟨y 0, y 1, by
    funext a
    match a with
    | 0 => rfl
    | 1 => rfl⟩
  blk_simp
  rw [after0_2]
  frame_out
  have ht : t.val < 128 := t.isLt
  have e : ((View.whole main_v0).slice (win0_2.rect t)).emb (ix2 r n)
      = ix2 ⟨2048 * (t.val / 32) + r.val, by omega⟩ ⟨512 * (t.val % 32) + n.val, by omega⟩ := by
    funext a
    match a with
    | 0 => exact Fin.ext (by blk_simp [at_2]; show _ = 2048 * (t.val / 32) + r.val; omega)
    | 1 => exact Fin.ext (by blk_simp [at_2]; show _ = 512 * (t.val % 32) + n.val; omega)
  rw [e]
  exact pay_apply _ _ r n _ _ _ _ (fun k => blk_x m c t r k _ rfl) (fun k => blk_w m c t k n _ rfl)

end Cert.Up

namespace Cert.Up
open Cert.Reference2Ideal Cert.Reference2Ideal.Gen

/-- The reference's array. -/
theorem reference_arr (x : FVec Ideal Cert.Reference2Ideal.S8192x4096 .bf16) (w : FVec Ideal Cert.Reference2Ideal.S2x4096x16384 .f32) :
    truncf .bf16 (mulf (maximumf (Host.dotGeneral dot_S8192x4096_S4096x16384_S8192x16384_1_0_0_1_n_n none (extf .f32 x bitsLt_bf16_f32) (shapeCast _ (extractStridedSlice S1x4096x16384 ![1, 0, 0] w slices_S2x4096x16384_S1x4096x16384_1_0_0) shapeCasts_S1x4096x16384_S4096x16384)) (broadcastInDim S8192x16384 ![] bcast_S_S8192x16384 (constant S_ .f32 0x00000000#32))) (maximumf (Host.dotGeneral dot_S8192x4096_S4096x16384_S8192x16384_1_0_0_1_n_n none (extf .f32 x bitsLt_bf16_f32) (shapeCast _ (extractStridedSlice S1x4096x16384 ![1, 0, 0] w slices_S2x4096x16384_S1x4096x16384_1_0_0) shapeCasts_S1x4096x16384_S4096x16384)) (broadcastInDim S8192x16384 ![] bcast_S_S8192x16384 (constant S_ .f32 0x00000000#32)))) bitsLt_bf16_f32 = want x w := by
  funext i
  unfold want
  pointwise
  trace_state

end Cert.Up

end
-- ==== Proof.Down.lean ====
/-
  The feed-forward part's second product onto the residual stream. Run g of eight points handles one block of 2048 rows and
  1024 columns; its point k adds the product over hidden features 2048 k to 2048 k + 2047 to the block, which stays in place.
  The block starts at the residual stream in its upper half and at zero in its lower half; the lower half's residual comes
  at the run's fifth point.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.Down
open Cert.Kernel3Ideal Cert.Kernel3Ideal.Gen Cert.Kernel3Ideal.Value

/-- The residual stream plus the product with layer 1's weights. -/
def want (h : (⟨2, ![8192, 16384]⟩ : Shape).Idx → EReal) (w : (⟨3, ![2, 16384, 4096]⟩ : Shape).Idx → EReal)
    (x : (⟨2, ![8192, 4096]⟩ : Shape).Idx → EReal) : (⟨2, ![8192, 4096]⟩ : Shape).Idx → EReal := fun i =>
  x i + ∑ k : Fin 16384, h (ix2 (i 0) k) * w (ix3 1 k (i 1))

variable (h : (⟨2, ![8192, 16384]⟩ : Shape).Idx → EReal) (w : (⟨3, ![2, 16384, 4096]⟩ : Shape).Idx → EReal)

/-- One term of the product, the hidden feature as any natural number. -/
def term (R : Fin 8192) (C : Fin 4096) (q : ℕ) : EReal := h (ix2 R (Fin.ofNat 16384 q)) * w (ix3 1 (Fin.ofNat 16384 q) C)

/-- The terms of one point of a run. -/
def part (R : Fin 8192) (C : Fin 4096) (s : ℕ) : EReal := ∑ j : Fin 2048, term h w R C (s * 2048 + j.val)

/-- The eight points' terms are all terms. -/
theorem sum_part (R : Fin 8192) (C : Fin 4096) :
    ∑ s ∈ Finset.range 8, part h w R C s = ∑ k : Fin 16384, h (ix2 R k) * w (ix3 1 k C) := by
  rw [Finset.sum_range]
  unfold part
  rw [Fin.sum_univ_univ_mul_add 8 2048 (term h w R C)]
  refine Finset.sum_congr rfl fun k _ => ?_
  have e : Fin.ofNat 16384 k.val = k := Fin.ext (Nat.mod_eq_of_lt k.isLt)
  unfold term
  rw [e]

/-! ## The two halves of a block -/

/-- A store read inside it. -/
theorem canon_at {Val : EltTy → Type} [∀ e, Nonempty (Val e)] {S : Shape} {e : EltTy} {R : Rect S} {P : R.shape.Idx → Val e}
    {L : List (View.Piece Val S e)} {y : S.Idx} {x : R.shape.Idx} (h : y = R.emb x) : View.canon (⟨R, P⟩ :: L) y = P x := by
  subst h
  exact View.canon_cons_emb R P L x

section Halves
variable (P5 P4 : Vec Ideal S1024x1024 .f32) (L : List (View.Piece (Elt Ideal) S2048x1024 .f32)) (r n : Fin 1024)

/-- Below the middle the block holds what was stored last. -/
theorem canon_low : View.canon ((⟨Rect.unit ![1024, 0] ![1024, 1024] inb_S2048x1024_S1024x1024_1024_0, P5⟩ : View.Piece (Elt Ideal) S2048x1024 .f32)
      :: ⟨Rect.unit ![0, 0] ![1024, 1024] inb_S2048x1024_S1024x1024_0_0, P4⟩ :: L) (ix2 ⟨1024 + r.val, by omega⟩ n) = P5 (ix2 r n) := by
  have e : (ix2 (⟨1024 + r.val, by omega⟩ : Fin 2048) n : S2048x1024.Idx)
      = (Rect.unit (s := S2048x1024) ![1024, 0] ![1024, 1024] inb_S2048x1024_S1024x1024_1024_0).emb (ix2 r n) := by
    funext a
    match a with
    | 0 => exact Fin.ext (by show 1024 + r.val = 1024 + 1 * r.val; omega)
    | 1 => exact Fin.ext (by show n.val = 0 + 1 * n.val; omega)
  exact canon_at e

/-- Above it, what was stored before that. -/
theorem canon_high : View.canon ((⟨Rect.unit ![1024, 0] ![1024, 1024] inb_S2048x1024_S1024x1024_1024_0, P5⟩ : View.Piece (Elt Ideal) S2048x1024 .f32)
      :: ⟨Rect.unit ![0, 0] ![1024, 1024] inb_S2048x1024_S1024x1024_0_0, P4⟩ :: L) (ix2 ⟨r.val, by omega⟩ n) = P4 (ix2 r n) := by
  rw [View.canon_cons_of_not_mem]
  · have e : (ix2 (⟨r.val, by omega⟩ : Fin 2048) n : S2048x1024.Idx)
        = (Rect.unit (s := S2048x1024) ![0, 0] ![1024, 1024] inb_S2048x1024_S1024x1024_0_0).emb (ix2 r n) := by
      funext a
      match a with
      | 0 => exact Fin.ext (by show r.val = 0 + 1 * r.val; omega)
      | 1 => exact Fin.ext (by show n.val = 0 + 1 * n.val; omega)
    exact canon_at e
  · rw [Rect.mem_set_unit]
    intro hm
    have h0 : 1024 ≤ r.val := (hm 0).1
    omega

/-- The block of hidden activations cut at its middle: the upper half, -/
theorem ld_h_high (x : Vec Ideal S2048x2048 .bf16) (k : Fin 2048) :
    View.ld x (Rect.unit ![0, 0] ![1024, 2048] inb_S2048x2048_S1024x2048_0_0) (ix2 r k) = x (ix2 ⟨r.val, by omega⟩ k) := by
  refine View.ld_unit_apply_of x _ _ _ _ _ fun a => ?_
  match a with
  | 0 => exact (Nat.zero_add _).symm
  | 1 => exact (Nat.zero_add _).symm

/-- the lower half. -/
theorem ld_h_low (x : Vec Ideal S2048x2048 .bf16) (k : Fin 2048) :
    View.ld x (Rect.unit ![1024, 0] ![1024, 2048] inb_S2048x2048_S1024x2048_1024_0) (ix2 r k) = x (ix2 ⟨1024 + r.val, by omega⟩ k) := by
  refine View.ld_unit_apply_of x _ _ _ _ _ fun a => ?_
  match a with
  | 0 => rfl
  | 1 => exact (Nat.zero_add _).symm

/-- The block carried, cut at its middle: the upper half, -/
theorem ld_o_high (x : Vec Ideal S2048x1024 .f32) :
    View.ld x (Rect.unit ![0, 0] ![1024, 1024] inb_S2048x1024_S1024x1024_0_0) (ix2 r n) = x (ix2 ⟨r.val, by omega⟩ n) := by
  refine View.ld_unit_apply_of x _ _ _ _ _ fun a => ?_
  match a with
  | 0 => exact (Nat.zero_add _).symm
  | 1 => exact (Nat.zero_add _).symm

/-- the lower half. -/
theorem ld_o_low (x : Vec Ideal S2048x1024 .f32) :
    View.ld x (Rect.unit ![1024, 0] ![1024, 1024] inb_S2048x1024_S1024x1024_1024_0) (ix2 r n) = x (ix2 ⟨1024 + r.val, by omega⟩ n) := by
  refine View.ld_unit_apply_of x _ _ _ _ _ fun a => ?_
  match a with
  | 0 => rfl
  | 1 => exact (Nat.zero_add _).symm

/-- The upper half's payload: what was there plus a product. -/
theorem pay4_apply (b : Vec Ideal S1x2048x1024 .f32) (v : Vec Ideal S1024x1024 .f32) (a : Vec Ideal S1024x2048 .bf16) :
    k0_pay4 (F := Ideal) b v a (ix2 r n) = v (ix2 r n) + ∑ k : Fin 2048, a (ix2 r k) * b (ix3 0 k n) := by
  pointwise [k0_pay4, k0_pay3]

/-- The lower half's payload likewise. -/
theorem pay5_apply (b : Vec Ideal S1x2048x1024 .f32) (v : Vec Ideal S1024x1024 .f32) (a : Vec Ideal S1024x2048 .bf16) :
    k0_pay5 (F := Ideal) b v a (ix2 r n) = v (ix2 r n) + ∑ k : Fin 2048, a (ix2 r k) * b (ix3 0 k n) := by
  pointwise [k0_pay5, k0_pay3]

/-- The upper half's payload, its activations cut from their block. -/
theorem pay4_ld (b : Vec Ideal S1x2048x1024 .f32) (v : Vec Ideal S1024x1024 .f32) (a : Vec Ideal S2048x2048 .bf16) :
    k0_pay4 (F := Ideal) b v (View.ld a (Rect.unit ![0, 0] ![1024, 2048] inb_S2048x2048_S1024x2048_0_0)) (ix2 r n)
      = v (ix2 r n) + ∑ k : Fin 2048, a (ix2 ⟨r.val, by omega⟩ k) * b (ix3 0 k n) :=
  (pay4_apply r n b v _).trans (congrArg _ (Finset.sum_congr rfl fun k _ => congrArg (· * _) (ld_h_high r a k)))

/-- The lower half's likewise. -/
theorem pay5_ld (b : Vec Ideal S1x2048x1024 .f32) (v : Vec Ideal S1024x1024 .f32) (a : Vec Ideal S2048x2048 .bf16) :
    k0_pay5 (F := Ideal) b v (View.ld a (Rect.unit ![1024, 0] ![1024, 2048] inb_S2048x2048_S1024x2048_1024_0)) (ix2 r n)
      = v (ix2 r n) + ∑ k : Fin 2048, a (ix2 ⟨1024 + r.val, by omega⟩ k) * b (ix3 0 k n) :=
  (pay5_apply r n b v _).trans (congrArg _ (Finset.sum_congr rfl fun k _ => congrArg (· * _) (ld_h_low r a k)))

/-- The lower half's start is zero. -/
theorem pay1_apply : k0_pay1 (F := Ideal) (ix2 r n) = 0 := by
  pointwise [k0_pay1]

/-- The lower half with its residual added. -/
theorem pay2_apply (v x : Vec Ideal S1024x1024 .f32) : k0_pay2 (F := Ideal) v x (ix2 r n) = v (ix2 r n) + x (ix2 r n) := by
  pointwise [k0_pay2]

end Halves

/-! ## The blocks a point reads -/

variable (m : (ℓ : Loc nD τ sig) → Buf (Elt Ideal) ℓ) (c : Dev nD)

/-- The hidden activations. -/
abbrev hA : (⟨2, ![8192, 16384]⟩ : Shape).Idx → EReal := m ((c : Thread nD τ).loc main_arg0)
/-- The weights of both layers. -/
abbrev wA : (⟨3, ![2, 16384, 4096]⟩ : Shape).Idx → EReal := m ((c : Thread nD τ).loc main_arg1)
/-- The residual stream. -/
abbrev xA : (⟨2, ![8192, 4096]⟩ : Shape).Idx → EReal := m ((c : Thread nD τ).loc main_arg2)

/-- The block of hidden activations that a point reads. -/
theorem at_0 : ∀ t : Fin cfg0.N, win0_0.index t = ![t.val / 32, t.val % 8] := by decide +kernel
/-- The block of weights that a point reads. -/
theorem at_1 : ∀ t : Fin cfg0.N, win0_1.index t = ![1, t.val % 8, t.val / 8 % 4] := by decide +kernel
/-- The block of the residual stream that a point reads. -/
theorem at_2 : ∀ t : Fin cfg0.N, win0_2.index t = ![2 * (t.val / 32) + t.val % 8 / 4, t.val / 8 % 4] := by decide +kernel
/-- The block that a run stores. -/
theorem at_3 : ∀ t : Fin cfg0.N, win0_3.index t = ![t.val / 32, t.val / 8 % 4] := by decide +kernel

/-- The array's row that point `t` handles as row `r` of its block. -/
def rowOf (t : ℕ) (r : Fin 2048) : Fin 8192 := ⟨2048 * (t / 32 % 4) + r.val, by omega⟩
/-- The array's column that point `t` handles as column `n` of its block. -/
def colOf (t : ℕ) (n : Fin 1024) : Fin 4096 := ⟨1024 * (t / 8 % 4) + n.val, by omega⟩

/-- The block of hidden activations, read off the array. -/
theorem blk_h (t : Fin cfg0.N) (r : Fin 2048) (k : Fin 2048) :
    iblk m c 0 t (ix2 r k) = hA m c (ix2 (rowOf t r) (Fin.ofNat 16384 (t.val % 8 * 2048 + k.val))) := by
  have ht : t.val < 128 := t.isLt
  blk_simp [iblk]
  rw [V_main_arg0]
  congr 1
  funext a
  match a with
  | 0 => exact Fin.ext (by blk_simp [at_0]; show _ = 2048 * (t.val / 32 % 4) + r.val; omega)
  | 1 => exact Fin.ext (by blk_simp [at_0]; show _ = (t.val % 8 * 2048 + k.val) % 16384; omega)

/-- The block of weights, read off the array. -/
theorem blk_w (t : Fin cfg0.N) (k : Fin 2048) (n : Fin 1024) :
    iblk m c 1 t (ix3 0 k n) = wA m c (ix3 1 (Fin.ofNat 16384 (t.val % 8 * 2048 + k.val)) (colOf t n)) := by
  have ht : t.val < 128 := t.isLt
  blk_simp [iblk]
  rw [V_main_arg1]
  congr 1
  funext a
  match a with
  | 0 => exact Fin.ext (by blk_simp [at_1]; rfl)
  | 1 => exact Fin.ext (by blk_simp [at_1]; show _ = (t.val % 8 * 2048 + k.val) % 16384; omega)
  | 2 => exact Fin.ext (by blk_simp [at_1]; show _ = 1024 * (t.val / 8 % 4) + n.val; omega)

/-- The block of the residual stream, read off the array: the upper half's rows at a run's first four points, -/
theorem blk_x_high (t : Fin cfg0.N) (hk : t.val % 8 < 4) (r n : Fin 1024) :
    iblk m c 2 t (ix2 r n) = xA m c (ix2 (rowOf t ⟨r.val, by omega⟩) (colOf t n)) := by
  have ht : t.val < 128 := t.isLt
  blk_simp [iblk]
  rw [V_main_arg2]
  congr 1
  funext a
  match a with
  | 0 => exact Fin.ext (by blk_simp [at_2]; show _ = 2048 * (t.val / 32 % 4) + r.val; omega)
  | 1 => exact Fin.ext (by blk_simp [at_2]; show _ = 1024 * (t.val / 8 % 4) + n.val; omega)

/-- the lower half's at its last four. -/
theorem blk_x_low (t : Fin cfg0.N) (hk : 4 ≤ t.val % 8) (r n : Fin 1024) :
    iblk m c 2 t (ix2 r n) = xA m c (ix2 (rowOf t ⟨1024 + r.val, by omega⟩) (colOf t n)) := by
  have ht : t.val < 128 := t.isLt
  blk_simp [iblk]
  rw [V_main_arg2]
  congr 1
  funext a
  match a with
  | 0 => exact Fin.ext (by blk_simp [at_2]; show _ = 2048 * (t.val / 32 % 4) + (1024 + r.val); omega)
  | 1 => exact Fin.ext (by blk_simp [at_2]; show _ = 1024 * (t.val / 8 % 4) + n.val; omega)

/-- A point's product, at an index of its block. -/
theorem prod_blk (t : Fin cfg0.N) (r : Fin 2048) (n : Fin 1024) (x0 : Vec Ideal S2048x2048 .bf16) (x1 : Vec Ideal S1x2048x1024 .f32)
    (h0 : x0 = iblk m c 0 t) (h1 : x1 = iblk m c 1 t) :
    ∑ k : Fin 2048, x0 (ix2 r k) * x1 (ix3 0 k n) = part (hA m c) (wA m c) (rowOf t r) (colOf t n) (t.val % 8) := by
  subst h0 h1
  exact Finset.sum_congr rfl fun k _ => congrArg₂ _ (blk_h m c t r k) (blk_w m c t k n)

/-! ## What a run leaves after each of its points -/

/-- After point `t` the block holds the products of the run's points so far, its upper half with the residual stream, its
    lower half with it from the fifth point on. -/
def Holds (t : ℕ) (o : Vec Ideal S2048x1024 .f32) : Prop :=
  (∀ r n : Fin 1024, o (ix2 ⟨r.val, by omega⟩ n) = xA m c (ix2 (rowOf t ⟨r.val, by omega⟩) (colOf t n))
      + ∑ s ∈ Finset.range (t % 8 + 1), part (hA m c) (wA m c) (rowOf t ⟨r.val, by omega⟩) (colOf t n) s)
  ∧ ∀ r n : Fin 1024, o (ix2 ⟨1024 + r.val, by omega⟩ n) = (if 4 ≤ t % 8 then xA m c (ix2 (rowOf t ⟨1024 + r.val, by omega⟩) (colOf t n)) else 0)
      + ∑ s ∈ Finset.range (t % 8 + 1), part (hA m c) (wA m c) (rowOf t ⟨1024 + r.val, by omega⟩) (colOf t n) s

/-- A run's first point. -/
theorem stepA (t : Fin cfg0.N) (h0 : t.val % 8 = 0) (h1 : ¬t.val % 8 = 4) : Holds m c t.val (outsAt0 m c t.val t.isLt) := by
  rw [outsAt0_A m c t h0 h1]
  frame_open
  simp (disch := decide) only [↓ View.readCov_skip, ↓ View.readCov_cons_toLoadRect, ↓ View.readCov_fill]
  frame_out
  refine ⟨fun r n => ?_, fun r n => ?_⟩
  · rw [canon_high]
    refine (pay4_ld r n _ _ _).trans ?_
    rw [prod_blk m c t _ n _ _ rfl rfl, h0, Finset.sum_range_one]
    exact congrArg (· + _) (blk_x_high m c t (by omega) r n)
  · rw [canon_low]
    refine (pay5_ld r n _ _ _).trans ?_
    rw [prod_blk m c t _ n _ _ rfl rfl, h0, Finset.sum_range_one, if_neg (by omega)]
    exact congrArg (· + _) (pay1_apply r n)

/-- A run's later points but the fifth. -/
theorem stepB (t : Fin cfg0.N) (h0 : ¬t.val % 8 = 0) (h1 : ¬t.val % 8 = 4)
    (ih : Holds m c (t.val - 1) (outsAt0 m c (t.val - 1) (Nat.lt_of_le_of_lt (Nat.sub_le _ _) t.isLt))) :
    Holds m c t.val (outsAt0 m c t.val t.isLt) := by
  rw [outsAt0_B m c t h0 h1]
  generalize outsAt0 m c (t.val - 1) _ = o at ih
  frame_out
  have ek : t.val % 8 = (t.val - 1) % 8 + 1 := by omega
  have er : ∀ r, rowOf (t.val - 1) r = rowOf t.val r := fun r => Fin.ext (by show 2048 * ((t.val - 1) / 32 % 4) + _ = 2048 * (t.val / 32 % 4) + _; omega)
  have ec : ∀ n, colOf (t.val - 1) n = colOf t.val n := fun n => Fin.ext (by show 1024 * ((t.val - 1) / 8 % 4) + _ = 1024 * (t.val / 8 % 4) + _; omega)
  refine ⟨fun r n => ?_, fun r n => ?_⟩
  · rw [canon_high]
    refine (pay4_ld r n _ _ _).trans ?_
    rw [prod_blk m c t _ n _ _ rfl rfl, ld_o_high, ih.1 r n, er, ec, Finset.sum_range_succ _ (t.val % 8), ← ek, add_assoc]
  · rw [canon_low]
    refine (pay5_ld r n _ _ _).trans ?_
    rw [prod_blk m c t _ n _ _ rfl rfl, ld_o_low, ih.2 r n, er, ec, Finset.sum_range_succ _ (t.val % 8), ← ek, add_assoc]
    have hi : (4 ≤ (t.val - 1) % 8) ↔ 4 ≤ t.val % 8 := by omega
    simp only [hi]

/-- A run's fifth point, where the lower half's residual comes. -/
theorem stepC (t : Fin cfg0.N) (h0 : ¬t.val % 8 = 0) (h1 : t.val % 8 = 4)
    (ih : Holds m c (t.val - 1) (outsAt0 m c (t.val - 1) (Nat.lt_of_le_of_lt (Nat.sub_le _ _) t.isLt))) :
    Holds m c t.val (outsAt0 m c t.val t.isLt) := by
  rw [outsAt0_C m c t h0 h1]
  generalize outsAt0 m c (t.val - 1) _ = o at ih
  frame_open
  simp (disch := decide) only [↓ View.readCov_skip, ↓ View.readCov_cons_toLoadRect, ↓ View.readCov_fill]
  frame_out
  have ek : t.val % 8 = (t.val - 1) % 8 + 1 := by omega
  have er : ∀ r, rowOf (t.val - 1) r = rowOf t.val r := fun r => Fin.ext (by show 2048 * ((t.val - 1) / 32 % 4) + _ = 2048 * (t.val / 32 % 4) + _; omega)
  have ec : ∀ n, colOf (t.val - 1) n = colOf t.val n := fun n => Fin.ext (by show 1024 * ((t.val - 1) / 8 % 4) + _ = 1024 * (t.val / 8 % 4) + _; omega)
  refine ⟨fun r n => ?_, fun r n => ?_⟩
  · rw [canon_high]
    refine (pay4_ld r n _ _ _).trans ?_
    rw [prod_blk m c t _ n _ _ rfl rfl, ld_o_high, ih.1 r n, er, ec, Finset.sum_range_succ _ (t.val % 8), ← ek, add_assoc]
  · rw [canon_low]
    refine (pay5_ld r n _ _ _).trans ?_
    rw [prod_blk m c t _ n _ _ rfl rfl, pay2_apply, ld_o_low, ih.2 r n, er, ec, Finset.sum_range_succ _ (t.val % 8), ← ek, if_neg (by omega),
      if_pos (by omega), zero_add, ← add_assoc]
    refine congrArg (· + _) ((add_comm _ _).trans (congrArg (· + _) (blk_x_low m c t (by omega) r n)))

/-- Every point. -/
theorem all_points : ∀ (n : ℕ) (hn : n < cfg0.N), Holds m c n (outsAt0 m c n hn)
  | 0, hn => stepA m c ⟨0, hn⟩ rfl (by show ¬0 % 8 = 4; omega)
  | n + 1, hn => by
    by_cases h0 : (n + 1) % 8 = 0
    · exact stepA m c ⟨n + 1, hn⟩ h0 (by show ¬(n + 1) % 8 = 4; omega)
    · have ih := all_points n (Nat.lt_of_succ_lt hn)
      by_cases h1 : (n + 1) % 8 = 4
      · exact stepC m c ⟨n + 1, hn⟩ h0 h1 ih
      · exact stepB m c ⟨n + 1, hn⟩ h0 h1 ih

/-- The kernel's array. -/
theorem kernel_arr : (dats m 0 c).arrAt 3 cfg0.N = want (hA m c) (wA m c) (xA m c) := by
  refine (dats m 0 c).arrAt_eq_of_covers 3 _ (by decide +kernel) fun t hf y => ?_
  have ht : t.val < 128 := t.isLt
  have hk : t.val % 8 = 7 := (flush0_3 t).mp hf
  have H := all_points m c t.val t.isLt
  blk_simp
  rw [after0_3]
  obtain ⟨r, n, rfl⟩ : ∃ (r : Fin 2048) (n : Fin 1024), y = ix2 r n := ⟨y 0, y 1, by
    funext a
    match a with
    | 0 => rfl
    | 1 => rfl⟩
  have e : ((View.whole main_v0).slice (win0_3.rect t)).emb (ix2 r n) = ix2 (rowOf t r) (colOf t n) := by
    funext a
    match a with
    | 0 => exact Fin.ext (by blk_simp [at_3]; show _ = 2048 * (t.val / 32 % 4) + r.val; omega)
    | 1 => exact Fin.ext (by blk_simp [at_3]; show _ = 1024 * (t.val / 8 % 4) + n.val; omega)
  rw [e]
  refine Eq.trans ?_ (congrArg (xA m c (ix2 (rowOf t r) (colOf t n)) + ·) (sum_part (hA m c) (wA m c) (rowOf t r) (colOf t n)))
  by_cases hr : r.val < 1024
  · have := H.1 ⟨r.val, hr⟩ n
    rw [hk] at this
    exact this
  · have h2 := H.2 ⟨r.val - 1024, by omega⟩ n
    have er : (⟨1024 + (r.val - 1024), by omega⟩ : Fin 2048) = r := Fin.ext (by show 1024 + (r.val - 1024) = r.val; omega)
    rw [hk, if_pos (by omega)] at h2
    simp only [er] at h2
    exact h2

end Cert.Down

namespace Cert.Down
open Cert.Reference3Ideal Cert.Reference3Ideal.Gen

/-- The reference's array. -/
theorem reference_arr (h : FVec Ideal Cert.Reference3Ideal.S8192x16384 .bf16) (w : FVec Ideal Cert.Reference3Ideal.S2x16384x4096 .f32)
    (x : FVec Ideal Cert.Reference3Ideal.S8192x4096 .f32) :
    addf x (Host.dotGeneral dot_S8192x16384_S16384x4096_S8192x4096_1_0_0_1_n_n none (extf .f32 h bitsLt_bf16_f32) (shapeCast _ (extractStridedSlice S1x16384x4096 ![1, 0, 0] w slices_S2x16384x4096_S1x16384x4096_1_0_0) shapeCasts_S1x16384x4096_S16384x4096)) = want h w x := by
  funext i
  obtain ⟨r, n, rfl⟩ : ∃ (r : Fin 8192) (n : Fin 4096), i = ix2 r n := ⟨i 0, i 1, by
    funext a
    match a with
    | 0 => rfl
    | 1 => rfl⟩
  unfold want
  pointwise

end Cert.Down

end
-- ==== Proof.InProj.lean ====
/-
  The mixer's combined projection. Point (i, j) of the grid multiplies 2048 rows of activations by 512 columns of weights,
  stored transposed, over all 4096 input features, and scales the blocks of key columns.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.ValueIdx
public import Idealize.ShloMosaic.Lib.StableHlo.ReadAt

@[expose] public section

set_option maxRecDepth 16384

noncomputable section

open Idealize.ShloMosaic Idealize.ShloMosaic.TcCoe Idealize.SL.Sem

namespace Cert.InProj
open Cert.Kernel4Ideal Cert.Kernel4Ideal.Gen Cert.Kernel4Ideal.Value

/-- The projection, columns 2048 to 4095 (the keys) times a sixteenth, the gates' columns left out. -/
def want (x : (⟨2, ![8192, 4096]⟩ : Shape).Idx → EReal) (w : (⟨3, ![1, 4096, 12304]⟩ : Shape).Idx → EReal) :
    (⟨2, ![8192, 12288]⟩ : Shape).Idx → EReal := fun i =>
  (∑ k : Fin 4096, x (ix2 (i 0) k) * w (ix3 0 k (Fin.castLE (by decide) (i 1))))
    * if 2048 ≤ (i 1).val ∧ (i 1).val < 4096 then Ideal.ofBits (φ := .f32) 0x3D800000#32 else 1

variable (m : (ℓ : Loc nD τ sig) → Buf (Elt Ideal) ℓ) (c : Dev nD)

/-- The activations. -/
abbrev xA : (⟨2, ![8192, 4096]⟩ : Shape).Idx → EReal := m ((c : Thread nD τ).loc main_arg0)
/-- The weights. -/
abbrev wA : (⟨3, ![1, 4096, 12304]⟩ : Shape).Idx → EReal := m ((c : Thread nD τ).loc main_arg1)

/-- The block of activations that a point reads. -/
theorem at_0 : ∀ t : Fin cfg0.N, win0_0.index t = ![t.val / 24, 0] := by decide +kernel
/-- The block of weights that a point reads. -/
theorem at_1 : ∀ t : Fin cfg0.N, win0_1.index t = ![0, t.val % 24, 0] := by decide +kernel
/-- The block that a point stores. -/
theorem at_2 : ∀ t : Fin cfg0.N, win0_2.index t = ![t.val / 24, t.val % 24] := by decide +kernel
/-- The point's second coordinate. -/
theorem coord_1 : ∀ t : Fin cfg0.N, (grid0.coords t 1).val = t.val % 24 := by decide +kernel

/-- Which blocks hold key columns: the fifth to the eighth. -/
theorem key_block : ∀ j : Fin 24, Scalar.andi (Scalar.cmpi .sge (Scalar.muli (BitVec.ofNat 32 j.val) 512#32) 2048#32)
    (Scalar.cmpi .slt (Scalar.muli (BitVec.ofNat 32 j.val) 512#32) 4096#32) = if 4 ≤ j.val ∧ j.val < 8 then 1#1 else 0#1 := by decide

/-- The payload at an index. -/
theorem pay_apply (i : grid0.Coords) (x : Vec Ideal S2048x4096 .bf16) (w : Vec Ideal S1x512x4096 .f32) (r : Fin 2048) (n : Fin 512) :
    k0_pay1 (F := Ideal) i x w (ix2 r n) = (∑ k : Fin 4096, x (ix2 r k) * w (ix3 0 n k))
      * if 4 ≤ (i 1).val ∧ (i 1).val < 8 then Ideal.ofBits .f32 0x3D800000#32 else 1 := by
  pointwise [k0_pay1]
  refine congrArg (_ * ·) ?_
  rw [key_block (i 1)]
  split
  · rfl
  · rfl

/-- The weights transposed. -/
theorem V_tr (n : Fin 12304) (k : Fin 4096) : V m c main_v0 (ix3 0 n k) = wA m c (ix3 0 k n) := by
  unfold V
  after_reads_at

/-- The block of activations, read off the array. -/
theorem blk_x (t : Fin cfg0.N) (r : Fin 2048) (k : Fin 4096) (R : Fin 8192) (hR : R.val = 2048 * (t.val / 24) + r.val) :
    iblk m c 0 t (ix2 r k) = xA m c (ix2 R k) := by
  blk_simp [iblk]
  rw [V_main_arg0]
  congr 1
  funext a
  match a with
  | 0 => exact Fin.ext (by blk_simp [at_0]; omega)
  | 1 => exact Fin.ext (by blk_simp [at_0])

/-- The block of weights, read off the array. -/
theorem blk_w (t : Fin cfg0.N) (k : Fin 4096) (n : Fin 512) (C : Fin 12304) (hC : C.val = 512 * (t.val % 24) + n.val) :
    X0_1 m c t (ix3 0 n k) = wA m c (ix3 0 k C) := by
  rw [← V_tr m c]
  unfold X0_1 Pipeline.Window.fill
  rw [dif_pos (moved0_1 t _)]
  blk_simp [iblk]
  congr 1
  funext a
  match a with
  | 0 => exact Fin.ext (by blk_simp [at_1])
  | 1 => exact Fin.ext (by blk_simp [at_1]; dsimp only; omega)
  | 2 => exact Fin.ext (by blk_simp [at_1])

/-- The kernel's array. -/
theorem kernel_arr : (dats m 0 c).arrAt 2 cfg0.N = want (xA m c) (wA m c) := by
  refine (dats m 0 c).arrAt_eq_of_covers 2 _ (by decide +kernel) fun t hf y => ?_
  obtain ⟨r, n, rfl⟩ : ∃ (r : Fin 2048) (n : Fin 512), y = ix2 r n := ⟨y 0, y 1, by
    funext a
    match a with
    | 0 => rfl
    | 1 => rfl⟩
  blk_simp
  rw [after0_2]
  unfold outsAt0
  frame_out
  have ht : t.val < 96 := t.isLt
  have e : ((View.whole main_v1).slice (win0_2.rect t)).emb (ix2 r n)
      = ix2 ⟨2048 * (t.val / 24) + r.val, by omega⟩ ⟨512 * (t.val % 24) + n.val, by omega⟩ := by
    funext a
    match a with
    | 0 => exact Fin.ext (by blk_simp [at_2]; show _ = 2048 * (t.val / 24) + r.val; omega)
    | 1 => exact Fin.ext (by blk_simp [at_2]; show _ = 512 * (t.val % 24) + n.val; omega)
  rw [e]
  refine (pay_apply _ _ _ r n).trans ?_
  refine congrArg₂ (· * ·) (Finset.sum_congr rfl fun k _ => congrArg₂ (· * ·) (blk_x m c t r k _ rfl) (blk_w m c t k n _ rfl)) ?_
  rw [coord_1]
  refine if_congr ?_ rfl rfl
  show _ ↔ 2048 ≤ 512 * (t.val % 24) + n.val ∧ 512 * (t.val % 24) + n.val < 4096
  omega

end Cert.InProj

namespace Cert.InProj
open Cert.Reference4Ideal Cert.Reference4Ideal.Gen

/-- Queries, keys, values and output gates side by side, only the keys scaled, are all columns with the keys' scaled. -/
theorem parts_eq (S : Fin 12304 → EReal) (a : EReal) (n : Fin 12288) :
    (if h : n.val < 2048 then S ⟨n.val, by omega⟩
      else if h : n.val - 2048 < 2048 then S ⟨2048 + (n.val - 2048), by omega⟩ * a
      else if h : n.val - 2048 - 2048 < 4096 then S ⟨4096 + (n.val - 2048 - 2048), by omega⟩
      else S ⟨8192 + (n.val - 2048 - 2048 - 4096), by omega⟩)
      = S (Fin.castLE (by decide) n) * if 2048 ≤ n.val ∧ n.val < 4096 then a else 1 := by
  have col : ∀ q (hq : q < 12304), q = n.val → S ⟨q, hq⟩ = S (Fin.castLE (by decide) n) := fun q hq e => congrArg S (Fin.ext e)
  split_ifs with h1 h2 h3 <;> first | omega | skip
  · rw [mul_one]; exact col _ _ rfl
  · exact congrArg (· * a) (col _ _ (by omega))
  · rw [mul_one]; exact col _ _ (by omega)
  · rw [mul_one]; exact col _ _ (by omega)

/-- The reference's array. -/
theorem reference_arr (x : FVec Ideal Cert.Reference4Ideal.S8192x4096 .bf16) (w : FVec Ideal Cert.Reference4Ideal.S1x4096x12304 .f32) :
    (truncf .bf16 ((concatenate S8192x12288 1 [⟨S8192x2048, ((extractStridedSlice S8192x2048 ![0, 0] (Host.dotGeneral dot_S8192x4096_S4096x12304_S8192x12304_1_0_0_1_n_n none (extf .f32 x bitsLt_bf16_f32) (shapeCast _ w shapeCasts_S1x4096x12304_S4096x12304)) slices_S8192x12304_S8192x2048_0_0) : (⟨S8192x2048, .f32⟩ : BufTy).Contents (Elt Ideal))⟩, ⟨S8192x2048, ((mulf (extractStridedSlice S8192x2048 ![0, 2048] (Host.dotGeneral dot_S8192x4096_S4096x12304_S8192x12304_1_0_0_1_n_n none (extf .f32 x bitsLt_bf16_f32) (shapeCast _ w shapeCasts_S1x4096x12304_S4096x12304)) slices_S8192x12304_S8192x2048_0_2048) (broadcastInDim S8192x2048 ![] bcast_S_S8192x2048 (constant S_ .f32 0x3D800000#32))) : (⟨S8192x2048, .f32⟩ : BufTy).Contents (Elt Ideal))⟩, ⟨S8192x4096, ((extractStridedSlice S8192x4096 ![0, 4096] (Host.dotGeneral dot_S8192x4096_S4096x12304_S8192x12304_1_0_0_1_n_n none (extf .f32 x bitsLt_bf16_f32) (shapeCast _ w shapeCasts_S1x4096x12304_S4096x12304)) slices_S8192x12304_S8192x4096_0_4096) : (⟨S8192x4096, .f32⟩ : BufTy).Contents (Elt Ideal))⟩, ⟨S8192x4096, ((extractStridedSlice S8192x4096 ![0, 8192] (Host.dotGeneral dot_S8192x4096_S4096x12304_S8192x12304_1_0_0_1_n_n none (extf .f32 x bitsLt_bf16_f32) (shapeCast _ w shapeCasts_S1x4096x12304_S4096x12304)) slices_S8192x12304_S8192x4096_0_8192) : (⟨S8192x4096, .f32⟩ : BufTy).Contents (Elt Ideal))⟩] concatenates_S8192x2048_S8192x2048_S8192x4096_S8192x4096_S8192x12288_d1 : (⟨S8192x12288, .f32⟩ : BufTy).Contents (Elt Ideal))) bitsLt_bf16_f32 : FVec Ideal Cert.Reference4Ideal.S8192x12288 .bf16) = want x w := by
  funext i
  obtain ⟨r, n, rfl⟩ : ∃ (r : Fin 8192) (n : Fin 12288), i = ix2 r n := ⟨i 0, i 1, by
    funext a
    match a with
    | 0 => rfl
    | 1 => rfl⟩
  unfold want
  pointwise
  exact parts_eq (fun d => ∑ k : Fin 4096, x (ix2 r k) * w (ix3 0 k d)) _ n

end Cert.InProj

end
-- ==== Proof.OutProj.lean ====
/-
  The mixer's output projection onto the residual stream. Point (i, j) of the grid handles 2048 rows and 512 columns, over
  all 4096 input features; the head gain, one number to an input feature, multiplies the weights, 128 columns at a time.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Lib.ValueIdx
public import Idealize.ShloMosaic.Lib.StableHlo.ReadAt

@[expose] public section

set_option maxRecDepth 16384

noncomputable section

open Idealize.ShloMosaic Idealize.ShloMosaic.TcCoe Idealize.SL.Sem

namespace Cert.OutProj
open Cert.Kernel5Ideal Cert.Kernel5Ideal.Gen Cert.Kernel5Ideal.Value

/-- The residual stream plus the gated heads, times the gain, projected. -/
def want (h : (⟨2, ![8192, 4096]⟩ : Shape).Idx → EReal) (w : (⟨3, ![1, 4096, 4096]⟩ : Shape).Idx → EReal)
    (x : (⟨2, ![8192, 4096]⟩ : Shape).Idx → EReal) (g : (⟨2, ![1, 4096]⟩ : Shape).Idx → EReal) :
    (⟨2, ![8192, 4096]⟩ : Shape).Idx → EReal := fun i =>
  x i + ∑ k : Fin 4096, h (ix2 (i 0) k) * g (ix2 0 k) * w (ix3 0 k (i 1))

variable (m : (ℓ : Loc nD τ sig) → Buf (Elt Ideal) ℓ) (c : Dev nD)

/-- The gated heads. -/
abbrev hA : (⟨2, ![8192, 4096]⟩ : Shape).Idx → EReal := m ((c : Thread nD τ).loc main_arg0)
/-- The weights. -/
abbrev wA : (⟨3, ![1, 4096, 4096]⟩ : Shape).Idx → EReal := m ((c : Thread nD τ).loc main_arg1)
/-- The residual stream. -/
abbrev xA : (⟨2, ![8192, 4096]⟩ : Shape).Idx → EReal := m ((c : Thread nD τ).loc main_arg2)
/-- The head gain. -/
abbrev gA : (⟨2, ![1, 4096]⟩ : Shape).Idx → EReal := m ((c : Thread nD τ).loc main_arg3)

/-- The block of gated heads that a point reads. -/
theorem at_0 : ∀ t : Fin cfg0.N, win0_0.index t = ![t.val / 8, 0] := by decide +kernel
/-- The block of weights that a point reads. -/
theorem at_1 : ∀ t : Fin cfg0.N, win0_1.index t = ![0, 0, t.val % 8] := by decide +kernel
/-- The gain, read whole at every point. -/
theorem at_2 : ∀ t : Fin cfg0.N, win0_2.index t = ![0, 0] := by decide +kernel
/-- The block of the residual stream that a point reads. -/
theorem at_3 : ∀ t : Fin cfg0.N, win0_3.index t = ![t.val / 8, t.val % 8] := by decide +kernel
/-- The block that a point stores. -/
theorem at_4 : ∀ t : Fin cfg0.N, win0_4.index t = ![t.val / 8, t.val % 8] := by decide +kernel

/-- The payload at an index. A column reads the gain's column of the same place among its 128, and those are all alike. -/
theorem pay_apply (h : Vec Ideal S2048x4096 .bf16) (w : Vec Ideal S1x4096x512 .f32) (g : Vec Ideal S4096x128 .f32) (x : Vec Ideal S2048x512 .f32)
    (r : Fin 2048) (n : Fin 512) (G : Fin 4096 → EReal) (hg : ∀ k l, g (ix2 k l) = G k) :
    k0_pay1 (F := Ideal) h w g x (ix2 r n) = x (ix2 r n) + ∑ k : Fin 4096, h (ix2 r k) * G k * w (ix3 0 k n) := by
  have hn := n.isLt
  pointwise [k0_pay1]
  refine congrArg (x (ix2 r n) + ·) (Finset.sum_congr rfl fun k _ => ?_)
  rw [mul_assoc]
  congr 1
  rw [mul_comm (G k)]
  simp only [hg]
  split_ifs with h1 h2 h3
  · rfl
  all_goals
    congr 3
    exact Fin.ext (by dsimp only; omega)

/-- The gain as the kernel is given it. -/
theorem V_gain (k : Fin 4096) (l : Fin 128) : V m c main_v2 (ix2 k l) = gA m c (ix2 0 k) := by
  unfold V
  after_reads_at

/-- The block of gated heads, read off the array. -/
theorem blk_h (t : Fin cfg0.N) (r : Fin 2048) (k : Fin 4096) (R : Fin 8192) (hR : R.val = 2048 * (t.val / 8) + r.val) :
    iblk m c 0 t (ix2 r k) = hA m c (ix2 R k) := by
  blk_simp [iblk]
  rw [V_main_arg0]
  congr 1
  funext a
  match a with
  | 0 => exact Fin.ext (by blk_simp [at_0]; omega)
  | 1 => exact Fin.ext (by blk_simp [at_0])

/-- The block of weights, read off the array. -/
theorem blk_w (t : Fin cfg0.N) (k : Fin 4096) (n : Fin 512) (C : Fin 4096) (hC : C.val = 512 * (t.val % 8) + n.val) :
    iblk m c 1 t (ix3 0 k n) = wA m c (ix3 0 k C) := by
  blk_simp [iblk]
  rw [V_main_arg1]
  congr 1
  funext a
  match a with
  | 0 => exact Fin.ext (by blk_simp [at_1])
  | 1 => exact Fin.ext (by blk_simp [at_1])
  | 2 => exact Fin.ext (by blk_simp [at_1]; omega)

/-- The gain, read off the array. -/
theorem blk_g (t : Fin cfg0.N) (k : Fin 4096) (l : Fin 128) : iblk m c 2 t (ix2 k l) = gA m c (ix2 0 k) := by
  rw [← V_gain m c k l]
  blk_simp [iblk]
  congr 1
  funext a
  match a with
  | 0 => exact Fin.ext (by blk_simp [at_2])
  | 1 => exact Fin.ext (by blk_simp [at_2])

/-- The block of the residual stream, read off the array. -/
theorem blk_x (t : Fin cfg0.N) (r : Fin 2048) (n : Fin 512) (R : Fin 8192) (C : Fin 4096) (hR : R.val = 2048 * (t.val / 8) + r.val)
    (hC : C.val = 512 * (t.val % 8) + n.val) : iblk m c 3 t (ix2 r n) = xA m c (ix2 R C) := by
  blk_simp [iblk]
  rw [V_main_arg2]
  congr 1
  funext a
  match a with
  | 0 => exact Fin.ext (by blk_simp [at_3]; omega)
  | 1 => exact Fin.ext (by blk_simp [at_3]; omega)

/-- The kernel's array. -/
theorem kernel_arr : (dats m 0 c).arrAt 4 cfg0.N = want (hA m c) (wA m c) (xA m c) (gA m c) := by
  refine (dats m 0 c).arrAt_eq_of_covers 4 _ (by decide +kernel) fun t hf y => ?_
  obtain ⟨r, n, rfl⟩ : ∃ (r : Fin 2048) (n : Fin 512), y = ix2 r n := ⟨y 0, y 1, by
    funext a
    match a with
    | 0 => rfl
    | 1 => rfl⟩
  blk_simp
  rw [after0_4]
  frame_out
  have ht : t.val < 32 := t.isLt
  have e : ((View.whole main_v3).slice (win0_4.rect t)).emb (ix2 r n)
      = ix2 ⟨2048 * (t.val / 8) + r.val, by omega⟩ ⟨512 * (t.val % 8) + n.val, by omega⟩ := by
    funext a
    match a with
    | 0 => exact Fin.ext (by blk_simp [at_4]; show _ = 2048 * (t.val / 8) + r.val; omega)
    | 1 => exact Fin.ext (by blk_simp [at_4]; show _ = 512 * (t.val % 8) + n.val; omega)
  rw [e]
  refine (pay_apply _ _ _ _ r n (fun k => gA m c (ix2 0 k)) fun k l => blk_g m c t k l).trans ?_
  refine congrArg₂ (· + ·) (blk_x m c t r n _ _ rfl rfl) (Finset.sum_congr rfl fun k _ => ?_)
  exact congrArg₂ (· * ·) (congrArg (· * _) (blk_h m c t r k _ rfl)) (blk_w m c t k n _ rfl)

end Cert.OutProj

namespace Cert.OutProj
open Cert.Reference5Ideal Cert.Reference5Ideal.Gen

/-- The reference's array. -/
theorem reference_arr (h : FVec Ideal Cert.Reference5Ideal.S8192x4096 .bf16) (w : FVec Ideal Cert.Reference5Ideal.S1x4096x4096 .f32)
    (x : FVec Ideal Cert.Reference5Ideal.S8192x4096 .f32) (g : FVec Ideal Cert.Reference5Ideal.S1x4096 .f32) :
    addf x (Host.dotGeneral dot_S8192x4096_S4096x4096_S8192x4096_1_0_0_1_n_n none (mulf (extf .f32 h bitsLt_bf16_f32) (broadcastInDim S8192x4096 ![0, 1] bcast_S1x4096_S8192x4096_0_1 (broadcastInDim S1x4096 ![1] bcast_S4096_S1x4096_1 (shapeCast _ g shapeCasts_S1x4096_S4096)))) (shapeCast _ w shapeCasts_S1x4096x4096_S4096x4096)) = want h w x g := by
  funext i
  obtain ⟨r, n, rfl⟩ : ∃ (r : Fin 8192) (n : Fin 4096), i = ix2 r n := ⟨i 0, i 1, by
    funext a
    match a with
    | 0 => rfl
    | 1 => rfl⟩
  unfold want
  pointwise

end Cert.OutProj

end
-- ==== Proof.NsaOut.lean ====
/-
  The sparse attention's output projection onto the residual stream. Point (i, j) of the grid handles 2048 rows and 512
  columns, over all 4096 input features.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise
public import Idealize.ShloMosaic.Lib.ValueIdx
public import Idealize.ShloMosaic.Lib.StableHlo.ReadAt

@[expose] public section

set_option maxRecDepth 16384

noncomputable section

open Idealize.ShloMosaic Idealize.ShloMosaic.TcCoe Idealize.SL.Sem

namespace Cert.NsaOut
open Cert.Kernel6Ideal Cert.Kernel6Ideal.Gen Cert.Kernel6Ideal.Value

/-- The residual stream plus the heads, projected. -/
def want (h : (⟨2, ![8192, 4096]⟩ : Shape).Idx → EReal) (w : (⟨3, ![1, 4096, 4096]⟩ : Shape).Idx → EReal)
    (x : (⟨2, ![8192, 4096]⟩ : Shape).Idx → EReal) :
    (⟨2, ![8192, 4096]⟩ : Shape).Idx → EReal := fun i =>
  x i + ∑ k : Fin 4096, h (ix2 (i 0) k) * w (ix3 0 k (i 1))

variable (m : (ℓ : Loc nD τ sig) → Buf (Elt Ideal) ℓ) (c : Dev nD)

/-- The heads. -/
abbrev hA : (⟨2, ![8192, 4096]⟩ : Shape).Idx → EReal := m ((c : Thread nD τ).loc main_arg0)
/-- The weights. -/
abbrev wA : (⟨3, ![1, 4096, 4096]⟩ : Shape).Idx → EReal := m ((c : Thread nD τ).loc main_arg1)
/-- The residual stream. -/
abbrev xA : (⟨2, ![8192, 4096]⟩ : Shape).Idx → EReal := m ((c : Thread nD τ).loc main_arg2)

/-- The block of heads that a point reads. -/
theorem at_0 : ∀ t : Fin cfg0.N, win0_0.index t = ![t.val / 8, 0] := by decide +kernel
/-- The block of weights that a point reads. -/
theorem at_1 : ∀ t : Fin cfg0.N, win0_1.index t = ![0, 0, t.val % 8] := by decide +kernel
/-- The block of the residual stream that a point reads. -/
theorem at_2 : ∀ t : Fin cfg0.N, win0_2.index t = ![t.val / 8, t.val % 8] := by decide +kernel
/-- The block that a point stores. -/
theorem at_3 : ∀ t : Fin cfg0.N, win0_3.index t = ![t.val / 8, t.val % 8] := by decide +kernel

/-- The payload at an index. -/
theorem pay_apply (h : Vec Ideal S2048x4096 .bf16) (w : Vec Ideal S1x4096x512 .f32) (x : Vec Ideal S2048x512 .f32) (r : Fin 2048) (n : Fin 512) :
    k0_pay1 (F := Ideal) h w x (ix2 r n) = x (ix2 r n) + ∑ k : Fin 4096, h (ix2 r k) * w (ix3 0 k n) := by
  pointwise [k0_pay1]

/-- The block of heads, read off the array. -/
theorem blk_h (t : Fin cfg0.N) (r : Fin 2048) (k : Fin 4096) (R : Fin 8192) (hR : R.val = 2048 * (t.val / 8) + r.val) :
    iblk m c 0 t (ix2 r k) = hA m c (ix2 R k) := by
  blk_simp [iblk]
  rw [V_main_arg0]
  congr 1
  funext a
  match a with
  | 0 => exact Fin.ext (by blk_simp [at_0]; omega)
  | 1 => exact Fin.ext (by blk_simp [at_0])

/-- The block of weights, read off the array. -/
theorem blk_w (t : Fin cfg0.N) (k : Fin 4096) (n : Fin 512) (C : Fin 4096) (hC : C.val = 512 * (t.val % 8) + n.val) :
    iblk m c 1 t (ix3 0 k n) = wA m c (ix3 0 k C) := by
  blk_simp [iblk]
  rw [V_main_arg1]
  congr 1
  funext a
  match a with
  | 0 => exact Fin.ext (by blk_simp [at_1])
  | 1 => exact Fin.ext (by blk_simp [at_1])
  | 2 => exact Fin.ext (by blk_simp [at_1]; omega)

/-- The block of the residual stream, read off the array. -/
theorem blk_x (t : Fin cfg0.N) (r : Fin 2048) (n : Fin 512) (R : Fin 8192) (C : Fin 4096) (hR : R.val = 2048 * (t.val / 8) + r.val)
    (hC : C.val = 512 * (t.val % 8) + n.val) : iblk m c 2 t (ix2 r n) = xA m c (ix2 R C) := by
  blk_simp [iblk]
  rw [V_main_arg2]
  congr 1
  funext a
  match a with
  | 0 => exact Fin.ext (by blk_simp [at_2]; omega)
  | 1 => exact Fin.ext (by blk_simp [at_2]; omega)

/-- The kernel's array. -/
theorem kernel_arr : (dats m 0 c).arrAt 3 cfg0.N = want (hA m c) (wA m c) (xA m c) := by
  refine (dats m 0 c).arrAt_eq_of_covers 3 _ (by decide +kernel) fun t hf y => ?_
  obtain ⟨r, n, rfl⟩ : ∃ (r : Fin 2048) (n : Fin 512), y = ix2 r n := ⟨y 0, y 1, by
    funext a
    match a with
    | 0 => rfl
    | 1 => rfl⟩
  blk_simp
  rw [after0_3]
  frame_out
  have ht : t.val < 32 := t.isLt
  have e : ((View.whole main_v0).slice (win0_3.rect t)).emb (ix2 r n)
      = ix2 ⟨2048 * (t.val / 8) + r.val, by omega⟩ ⟨512 * (t.val % 8) + n.val, by omega⟩ := by
    funext a
    match a with
    | 0 => exact Fin.ext (by blk_simp [at_3]; show _ = 2048 * (t.val / 8) + r.val; omega)
    | 1 => exact Fin.ext (by blk_simp [at_3]; show _ = 512 * (t.val % 8) + n.val; omega)
  rw [e]
  refine (pay_apply _ _ _ r n).trans ?_
  refine congrArg₂ (· + ·) (blk_x m c t r n _ _ rfl rfl) (Finset.sum_congr rfl fun k _ => ?_)
  exact congrArg₂ (· * ·) (blk_h m c t r k _ rfl) (blk_w m c t k n _ rfl)

end Cert.NsaOut

namespace Cert.NsaOut
open Cert.Reference6Ideal Cert.Reference6Ideal.Gen

/-- The reference's array. -/
theorem reference_arr (h : FVec Ideal Cert.Reference6Ideal.S8192x4096 .bf16) (w : FVec Ideal Cert.Reference6Ideal.S1x4096x4096 .f32)
    (x : FVec Ideal Cert.Reference6Ideal.S8192x4096 .f32) :
    addf x (Host.dotGeneral dot_S8192x4096_S4096x4096_S8192x4096_1_0_0_1_n_n none (extf .f32 h bitsLt_bf16_f32) (shapeCast _ w shapeCasts_S1x4096x4096_S4096x4096)) = want h w x := by
  funext i
  obtain ⟨r, n, rfl⟩ : ∃ (r : Fin 8192) (n : Fin 4096), i = ix2 r n := ⟨i 0, i 1, by
    funext a
    match a with
    | 0 => rfl
    | 1 => rfl⟩
  unfold want
  pointwise

end Cert.NsaOut

end
-- ==== Proof.Queries.lean ====
/-
  The sparse attention's queries. Point (i, j) of the grid multiplies 2048 rows of activations by 512 columns of weights,
  stored transposed and times the norm's gain, over all 4096 input features, and normalises each of its four heads of 128.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import Idealize.ShloMosaic.Lib.ValueIdx
public import Idealize.ShloMosaic.Lib.StableHlo.ReadAt

@[expose] public section

set_option maxRecDepth 16384

noncomputable section

open Idealize.ShloMosaic Idealize.ShloMosaic.TcCoe Idealize.SL.Sem

namespace Cert.Queries
open Cert.Kernel7Ideal Cert.Kernel7Ideal.Gen Cert.Kernel7Ideal.Value

/-- The factor that normalises a head of 128 numbers: one over the root of their mean square. -/
def rstd (h : Fin 128 → EReal) : EReal :=
  Ideal.rsqrt (Ideal.div (∑ d, h d * h d) (Ideal.ofBits .f32 0x43000000#32) + Ideal.ofBits .f32 0x358637BD#32)

section Payload
variable (x : Vec Ideal S2048x4096 .bf16) (w : Vec Ideal S1x512x4096 .f32) (g : Vec Ideal S1x4096 .f32) (r : Fin 2048) (d : Fin 128)

/-- Column `n` of the block's product. -/
def prod (x : Vec Ideal S2048x4096 .bf16) (w : Vec Ideal S1x512x4096 .f32) (g : Vec Ideal S1x4096 .f32) (r : Fin 2048) (n : Fin 512) : EReal :=
  ∑ k : Fin 4096, x (ix2 r k) * g (ix2 0 k) * w (ix3 0 n k)

/-- The product's payload at an index. -/
theorem pay5_apply (n : Fin 512) : k0_pay5 (F := Ideal) x w g (ix2 r n) = prod x w g r n := by
  pointwise [k0_pay5]
  exact Finset.sum_congr rfl fun k _ => by rw [mul_comm (w _), mul_assoc]

/-- The block's entry at row `r` and column `n`: the product's, normalised in its head. -/
def blockOf (r : Fin 2048) (n : Fin 512) : EReal :=
  prod x w g r n * rstd fun e => prod x w g r ⟨128 * (n.val / 128) + e.val, by omega⟩

/-- What head `o`'s payload is to hold, in the block's own indices. -/
theorem blockOf_head (o : ℕ) (ho : o < 4) (y : S2048x512.Idx) (h0 : (y 0).val = r.val) (h1 : (y 1).val = 128 * o + d.val) :
    blockOf x w g (y 0) (y 1) = prod x w g r ⟨128 * o + d.val, by omega⟩ * rstd fun e => prod x w g r ⟨128 * o + e.val, by omega⟩ := by
  have e0 : (y 0 : Fin 2048) = r := Fin.ext h0
  have e1 : (y 1 : Fin 512) = ⟨128 * o + d.val, by omega⟩ := Fin.ext h1
  rw [e0, e1]
  refine congrArg (_ * rstd ·) (funext fun e => congrArg (prod x w g r) (Fin.ext ?_))
  show 128 * ((128 * o + d.val) / 128) + e.val = 128 * o + e.val
  omega

/-- The four heads' payloads are the block's. -/
theorem block_eq (y : S2048x512.Idx) : View.canon
      [(⟨Rect.unit ![0, 384] ![2048, 128] inb_S2048x512_S2048x128_0_384, k0_pay4 (F := Ideal) (k0_pay5 x w g) (k0_pay9 x w g)⟩
          : View.Piece (Elt Ideal) S2048x512 .bf16),
        ⟨Rect.unit ![0, 256] ![2048, 128] inb_S2048x512_S2048x128_0_256, k0_pay3 (k0_pay5 x w g) (k0_pay8 x w g)⟩,
        ⟨Rect.unit ![0, 128] ![2048, 128] inb_S2048x512_S2048x128_0_128, k0_pay2 (k0_pay5 x w g) (k0_pay7 x w g)⟩,
        ⟨Rect.unit ![0, 0] ![2048, 128] inb_S2048x512_S2048x128_0_0, k0_pay1 (k0_pay5 x w g) (k0_pay6 x w g)⟩] y
    = blockOf x w g (y 0) (y 1) := by
  refine View.canon_apply_of_pieces (Val := Elt Ideal) (e := .bf16) (fun y => blockOf x w g (y 0) (y 1)) _ ?_ y ?_
  swap
  · exact View.cover_of_tiled _ ![2048, 128] (by rfl) y
  simp only [List.forall_mem_cons, List.not_mem_nil, false_imp_iff, implies_true, and_true]
  refine ⟨fun i => ?_, fun i => ?_, fun i => ?_, fun i => ?_⟩
  all_goals
    obtain ⟨r, d, rfl⟩ : ∃ (r : Fin 2048) (d : Fin 128), i = ix2 r d := ⟨i 0, i 1, by
      funext a
      match a with
      | 0 => rfl
      | 1 => rfl⟩
  · rw [blockOf_head x w g r d 3 (by decide) _ (by show 0 + 1 * r.val = _; omega) (by show 384 + 1 * d.val = _; omega)]
    pointwise [k0_pay4, k0_pay9]
    simp only [pay5_apply]
    rfl
  · rw [blockOf_head x w g r d 2 (by decide) _ (by show 0 + 1 * r.val = _; omega) (by show 256 + 1 * d.val = _; omega)]
    pointwise [k0_pay3, k0_pay8]
    simp only [pay5_apply]
    rfl
  · rw [blockOf_head x w g r d 1 (by decide) _ (by show 0 + 1 * r.val = _; omega) (by show 128 + 1 * d.val = _; omega)]
    pointwise [k0_pay2, k0_pay7]
    simp only [pay5_apply]
    rfl
  · rw [blockOf_head x w g r d 0 (by decide) _ (by show 0 + 1 * r.val = _; omega) (by show 0 + 1 * d.val = _; omega)]
    pointwise [k0_pay1, k0_pay6]
    simp only [pay5_apply]
    rfl

end Payload

/-- Column `n` of the projection of row `r`. -/
def proj (x : (⟨2, ![8192, 4096]⟩ : Shape).Idx → EReal) (w : (⟨3, ![1, 4096, 4192]⟩ : Shape).Idx → EReal)
    (g : (⟨2, ![2, 4096]⟩ : Shape).Idx → EReal) (r : Fin 8192) (n : Fin 4096) : EReal :=
  ∑ k : Fin 4096, x (ix2 r k) * g (ix2 1 k) * w (ix3 0 k (Fin.castLE (by decide) n))

/-- The projection, each head of 128 columns normalised. -/
def want (x : (⟨2, ![8192, 4096]⟩ : Shape).Idx → EReal) (w : (⟨3, ![1, 4096, 4192]⟩ : Shape).Idx → EReal)
    (g : (⟨2, ![2, 4096]⟩ : Shape).Idx → EReal) : (⟨2, ![8192, 4096]⟩ : Shape).Idx → EReal := fun i =>
  proj x w g (i 0) (i 1)
    * rstd fun e => proj x w g (i 0) ⟨128 * ((i 1).val / 128) + e.val, by have := (i 1).isLt; have := e.isLt; dsimp at *; omega⟩

variable (m : (ℓ : Loc nD τ sig) → Buf (Elt Ideal) ℓ) (c : Dev nD)

/-- The activations. -/
abbrev xA : (⟨2, ![8192, 4096]⟩ : Shape).Idx → EReal := m ((c : Thread nD τ).loc main_arg0)
/-- The weights. -/
abbrev wA : (⟨3, ![1, 4096, 4192]⟩ : Shape).Idx → EReal := m ((c : Thread nD τ).loc main_arg1)
/-- The norms' gains of both layers. -/
abbrev gA : (⟨2, ![2, 4096]⟩ : Shape).Idx → EReal := m ((c : Thread nD τ).loc main_arg2)

/-- The block of activations that a point reads. -/
theorem at_0 : ∀ t : Fin cfg0.N, win0_0.index t = ![t.val / 8, 0] := by decide +kernel
/-- The block of weights that a point reads. -/
theorem at_1 : ∀ t : Fin cfg0.N, win0_1.index t = ![0, t.val % 8, 0] := by decide +kernel
/-- The gain, read whole at every point. -/
theorem at_2 : ∀ t : Fin cfg0.N, win0_2.index t = ![0, 0] := by decide +kernel
/-- The block that a point stores. -/
theorem at_3 : ∀ t : Fin cfg0.N, win0_3.index t = ![t.val / 8, t.val % 8] := by decide +kernel

/-- The weights transposed. -/
theorem V_w (n : Fin 4192) (k : Fin 4096) : V m c main_v0 (ix3 0 n k) = wA m c (ix3 0 k n) := by
  unfold V
  after_reads_at

/-- The gain as the kernel is given it. -/
theorem V_g (k : Fin 4096) : V m c main_v3 (ix2 0 k) = gA m c (ix2 1 k) := by
  unfold V
  after_reads_at

/-- The block of activations, read off the array. -/
theorem blk_x (t : Fin cfg0.N) (r : Fin 2048) (k : Fin 4096) (R : Fin 8192) (hR : R.val = 2048 * (t.val / 8) + r.val) :
    iblk m c 0 t (ix2 r k) = xA m c (ix2 R k) := by
  blk_simp [iblk]
  rw [V_main_arg0]
  congr 1
  funext a
  match a with
  | 0 => exact Fin.ext (by blk_simp [at_0]; omega)
  | 1 => exact Fin.ext (by blk_simp [at_0])

/-- The block of weights, read off the array. -/
theorem blk_w (t : Fin cfg0.N) (k : Fin 4096) (n : Fin 512) (C : Fin 4192) (hC : C.val = 512 * (t.val % 8) + n.val) :
    X0_1 m c t (ix3 0 n k) = wA m c (ix3 0 k C) := by
  rw [← V_w m c]
  unfold X0_1 Pipeline.Window.fill
  rw [dif_pos (moved0_1 t _)]
  blk_simp [iblk]
  congr 1
  funext a
  match a with
  | 0 => exact Fin.ext (by blk_simp [at_1])
  | 1 => exact Fin.ext (by blk_simp [at_1]; dsimp only; omega)
  | 2 => exact Fin.ext (by blk_simp [at_1])

/-- The gain, read off the array. -/
theorem blk_g (t : Fin cfg0.N) (k : Fin 4096) : iblk m c 2 t (ix2 0 k) = gA m c (ix2 1 k) := by
  rw [← V_g m c k]
  blk_simp [iblk]
  congr 1
  funext a
  match a with
  | 0 => exact Fin.ext (by blk_simp [at_2])
  | 1 => exact Fin.ext (by blk_simp [at_2])

/-- The block's product is the projection's. -/
theorem prod_eq (t : Fin cfg0.N) (r : Fin 2048) (n : Fin 512) (R : Fin 8192) (C : Fin 4096) (hR : R.val = 2048 * (t.val / 8) + r.val)
    (hC : C.val = 512 * (t.val % 8) + n.val) :
    prod (iblk m c 0 t) (X0_1 m c t) (iblk m c 2 t) r n = proj (xA m c) (wA m c) (gA m c) R C :=
  Finset.sum_congr rfl fun k _ => congrArg₂ (· * ·) (congrArg₂ (· * ·) (blk_x m c t r k R hR) (blk_g m c t k))
    (blk_w m c t k n (Fin.castLE (by decide) C) hC)

/-- The kernel's array. -/
theorem kernel_arr : (dats m 0 c).arrAt 3 cfg0.N = want (xA m c) (wA m c) (gA m c) := by
  refine (dats m 0 c).arrAt_eq_of_covers 3 _ (by decide +kernel) fun t hf y => ?_
  obtain ⟨r, n, rfl⟩ : ∃ (r : Fin 2048) (n : Fin 512), y = ix2 r n := ⟨y 0, y 1, by
    funext a
    match a with
    | 0 => rfl
    | 1 => rfl⟩
  blk_simp
  rw [after0_3]
  unfold outsAt0
  frame_out
  have ht : t.val < 32 := t.isLt
  have e : ((View.whole main_v4).slice (win0_3.rect t)).emb (ix2 r n)
      = ix2 ⟨2048 * (t.val / 8) + r.val, by omega⟩ ⟨512 * (t.val % 8) + n.val, by omega⟩ := by
    funext a
    match a with
    | 0 => exact Fin.ext (by blk_simp [at_3]; show _ = 2048 * (t.val / 8) + r.val; omega)
    | 1 => exact Fin.ext (by blk_simp [at_3]; show _ = 512 * (t.val % 8) + n.val; omega)
  rw [e]
  refine (block_eq (iblk m c 0 t) (X0_1 m c t) (iblk m c 2 t) (ix2 r n)).trans ?_
  refine congrArg₂ (· * ·) (prod_eq m c t r n _ _ rfl rfl) (congrArg rstd (funext fun e => prod_eq m c t r _ _ _ rfl ?_))
  show 128 * ((512 * (t.val % 8) + n.val) / 128) + e.val = 512 * (t.val % 8) + (128 * (n.val / 128) + e.val)
  omega

end Cert.Queries

namespace Cert.Queries
open Cert.Reference7Ideal Cert.Reference7Ideal.Gen

/-- The reference's query columns, by heads, are the projection's. -/
theorem heads_apply (x : FVec Ideal Cert.Reference7Ideal.S8192x4096 .bf16) (w : FVec Ideal Cert.Reference7Ideal.S1x4096x4192 .f32)
    (g : FVec Ideal Cert.Reference7Ideal.S2x4096 .f32) (r : Fin 8192) (h : Fin 32) (d : Fin 128) :
    (shapeCast _ (extractStridedSlice S8192x4096 ![0, 0] (Host.dotGeneral dot_S8192x4096_S4096x4192_S8192x4192_1_0_0_1_n_n none (mulf (extf .f32 x bitsLt_bf16_f32) (broadcastInDim S8192x4096 ![0, 1] bcast_S1x4096_S8192x4096_0_1 (broadcastInDim S1x4096 ![1] bcast_S4096_S1x4096_1 (shapeCast _ (extractStridedSlice S1x4096 ![1, 0] g slices_S2x4096_S1x4096_1_0) shapeCasts_S1x4096_S4096)))) (shapeCast _ w shapeCasts_S1x4096x4192_S4096x4192)) slices_S8192x4192_S8192x4096_0_0) shapeCasts_S8192x4096_S8192x32x128 : FVec Ideal Cert.Reference7Ideal.S8192x32x128 .f32) (ix3 r h d) = proj x w g r ⟨128 * h.val + d.val, by omega⟩ := by
  unfold proj
  pointwise
  refine Finset.sum_congr rfl fun k _ => congrArg (fun d => x (ix2 r k) * g (ix2 1 k) * w (ix3 0 k d)) (Fin.ext ?_)
  show h.val * 128 + d.val = 128 * h.val + d.val
  omega

/-- The reference's norm of heads. -/
theorem norm_apply (q : FVec Ideal Cert.Reference7Ideal.S8192x32x128 .f32) (r : Fin 8192) (n : Fin 4096) :
    (truncf .bf16 (shapeCast _ (mulf q (broadcastInDim S8192x32x128 ![0, 1, 2] bcast_S8192x32x1_S8192x32x128_0_1_2 (Host.rsqrt (addf (Host.divf (broadcastInDim S8192x32x1 ![0, 1] bcast_S8192x32_S8192x32x1_0_1 (Host.reduceAdd (mulf q q) (constant S_ .f32 0x00000000#32) reducesTo_S8192x32x128_S8192x32_d2 h_S_)) (broadcastInDim S8192x32x1 ![] bcast_S_S8192x32x1 (constant S_ .f32 0x43000000#32))) (broadcastInDim S8192x32x1 ![] bcast_S_S8192x32x1 (constant S_ .f32 0x358637BD#32)))))) shapeCasts_S8192x32x128_S8192x4096) bitsLt_bf16_f32 : FVec Ideal Cert.Reference7Ideal.S8192x4096 .bf16) (ix2 r n)
      = q (ix3 r ⟨n.val / 128, by omega⟩ ⟨n.val % 128, by omega⟩) * rstd fun e => q (ix3 r ⟨n.val / 128, by omega⟩ e) := by
  unfold rstd
  pointwise

/-- The reference's array. -/
theorem reference_arr (x : FVec Ideal Cert.Reference7Ideal.S8192x4096 .bf16) (w : FVec Ideal Cert.Reference7Ideal.S1x4096x4192 .f32)
    (g : FVec Ideal Cert.Reference7Ideal.S2x4096 .f32) :
    (truncf .bf16 (shapeCast _ (mulf (shapeCast _ (extractStridedSlice S8192x4096 ![0, 0] (Host.dotGeneral dot_S8192x4096_S4096x4192_S8192x4192_1_0_0_1_n_n none (mulf (extf .f32 x bitsLt_bf16_f32) (broadcastInDim S8192x4096 ![0, 1] bcast_S1x4096_S8192x4096_0_1 (broadcastInDim S1x4096 ![1] bcast_S4096_S1x4096_1 (shapeCast _ (extractStridedSlice S1x4096 ![1, 0] g slices_S2x4096_S1x4096_1_0) shapeCasts_S1x4096_S4096)))) (shapeCast _ w shapeCasts_S1x4096x4192_S4096x4192)) slices_S8192x4192_S8192x4096_0_0) shapeCasts_S8192x4096_S8192x32x128) (broadcastInDim S8192x32x128 ![0, 1, 2] bcast_S8192x32x1_S8192x32x128_0_1_2 (Host.rsqrt (addf (Host.divf (broadcastInDim S8192x32x1 ![0, 1] bcast_S8192x32_S8192x32x1_0_1 (Host.reduceAdd (mulf (shapeCast _ (extractStridedSlice S8192x4096 ![0, 0] (Host.dotGeneral dot_S8192x4096_S4096x4192_S8192x4192_1_0_0_1_n_n none (mulf (extf .f32 x bitsLt_bf16_f32) (broadcastInDim S8192x4096 ![0, 1] bcast_S1x4096_S8192x4096_0_1 (broadcastInDim S1x4096 ![1] bcast_S4096_S1x4096_1 (shapeCast _ (extractStridedSlice S1x4096 ![1, 0] g slices_S2x4096_S1x4096_1_0) shapeCasts_S1x4096_S4096)))) (shapeCast _ w shapeCasts_S1x4096x4192_S4096x4192)) slices_S8192x4192_S8192x4096_0_0) shapeCasts_S8192x4096_S8192x32x128) (shapeCast _ (extractStridedSlice S8192x4096 ![0, 0] (Host.dotGeneral dot_S8192x4096_S4096x4192_S8192x4192_1_0_0_1_n_n none (mulf (extf .f32 x bitsLt_bf16_f32) (broadcastInDim S8192x4096 ![0, 1] bcast_S1x4096_S8192x4096_0_1 (broadcastInDim S1x4096 ![1] bcast_S4096_S1x4096_1 (shapeCast _ (extractStridedSlice S1x4096 ![1, 0] g slices_S2x4096_S1x4096_1_0) shapeCasts_S1x4096_S4096)))) (shapeCast _ w shapeCasts_S1x4096x4192_S4096x4192)) slices_S8192x4192_S8192x4096_0_0) shapeCasts_S8192x4096_S8192x32x128)) (constant S_ .f32 0x00000000#32) reducesTo_S8192x32x128_S8192x32_d2 h_S_)) (broadcastInDim S8192x32x1 ![] bcast_S_S8192x32x1 (constant S_ .f32 0x43000000#32))) (broadcastInDim S8192x32x1 ![] bcast_S_S8192x32x1 (constant S_ .f32 0x358637BD#32)))))) shapeCasts_S8192x32x128_S8192x4096) bitsLt_bf16_f32 : FVec Ideal Cert.Reference7Ideal.S8192x4096 .bf16) = want x w g := by
  funext i
  obtain ⟨r, n, rfl⟩ : ∃ (r : Fin 8192) (n : Fin 4096), i = ix2 r n := ⟨i 0, i 1, by
    funext a
    match a with
    | 0 => rfl
    | 1 => rfl⟩
  refine (norm_apply _ r n).trans ?_
  refine congrArg₂ (· * ·) ((heads_apply x w g r _ _).trans (congrArg (proj x w g r) (Fin.ext ?_)))
    (congrArg rstd (funext fun e => heads_apply x w g r _ e))
  exact Nat.div_add_mod n.val 128

end Cert.Queries

end
-- ==== Proof.Values.lean ====
/-
  The values of the sparse attention's selected and window branches, one row per feature. Point (i, j) of the grid handles
  512 features and 1024 tokens, over all 4096 input features; the norm's gain, one number to an input feature, multiplies
  the weights.
-/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise
public import Idealize.ShloMosaic.Lib.ValueIdx
public import Idealize.ShloMosaic.Lib.StableHlo.ReadAt

@[expose] public section

set_option maxRecDepth 16384

noncomputable section

open Idealize.ShloMosaic Idealize.ShloMosaic.TcCoe Idealize.SL.Sem

namespace Cert.Values
open Cert.Kernel8Ideal Cert.Kernel8Ideal.Gen Cert.Kernel8Ideal.Value

/-- The shared projection's column that is feature `n` of the values: the fourth part of 512 columns, then the sixth. -/
def colOf (n : Fin 1024) : Fin 3072 := if h : n.val < 512 then ⟨1536 + n.val, by omega⟩ else ⟨2048 + n.val, by omega⟩

/-- The normed activations, times the gain, projected: feature `n` of token `r`. -/
def want (w : (⟨2, ![4096, 3072]⟩ : Shape).Idx → EReal) (x : (⟨2, ![8192, 4096]⟩ : Shape).Idx → EReal)
    (g : (⟨1, ![4096]⟩ : Shape).Idx → EReal) : (⟨2, ![1024, 8192]⟩ : Shape).Idx → EReal := fun i =>
  ∑ k : Fin 4096, x (ix2 (i 1) k) * g (ix1 k) * w (ix2 k (colOf (i 0)))

variable (m : (ℓ : Loc nD τ sig) → Buf (Elt Ideal) ℓ) (c : Dev nD)

/-- The weights. -/
abbrev wA : (⟨2, ![4096, 3072]⟩ : Shape).Idx → EReal := m ((c : Thread nD τ).loc main_arg0)
/-- The normed activations. -/
abbrev xA : (⟨2, ![8192, 4096]⟩ : Shape).Idx → EReal := m ((c : Thread nD τ).loc main_arg1)
/-- The gain. -/
abbrev gA : (⟨1, ![4096]⟩ : Shape).Idx → EReal := m ((c : Thread nD τ).loc main_arg2)

/-- The block of weights that a point reads. -/
theorem at_0 : ∀ t : Fin cfg0.N, win0_0.index t = ![t.val / 8, 0] := by decide +kernel
/-- The block of activations that a point reads. -/
theorem at_1 : ∀ t : Fin cfg0.N, win0_1.index t = ![t.val % 8, 0] := by decide +kernel
/-- The gain, read whole at every point. -/
theorem at_2 : ∀ t : Fin cfg0.N, win0_2.index t = ![0, 0] := by decide +kernel
/-- The block that a point stores. -/
theorem at_3 : ∀ t : Fin cfg0.N, win0_3.index t = ![t.val / 8, t.val % 8] := by decide +kernel

/-- The payload at an index. -/
theorem pay_apply (w : Vec Ideal S512x4096 .f32) (x : Vec Ideal S1024x4096 .bf16) (g : Vec Ideal S1x4096 .f32) (n : Fin 512) (r : Fin 1024) :
    k0_pay1 (F := Ideal) w x g (ix2 n r) = ∑ k : Fin 4096, x (ix2 r k) * g (ix2 0 k) * w (ix2 n k) := by
  pointwise [k0_pay1]
  exact Finset.sum_congr rfl fun k _ => by rw [mul_comm, mul_comm (w _), ← mul_assoc]

/-- The weights as the kernel is given them: the two parts' columns as rows. -/
theorem V_w (n : Fin 1024) (k : Fin 4096) : V m c main_v3 (ix2 n k) = wA m c (ix2 k (colOf n)) := by
  unfold V
  after_reads_at
  unfold colOf
  split_ifs with h
  · after_reads_at
  · after_reads_at
    exact congrArg (fun d => wA m c (ix2 k d)) (Fin.ext (by dsimp only; omega))
  · exact absurd rfl ‹_›

/-- The gain as the kernel is given it. -/
theorem V_g (k : Fin 4096) : V m c main_v4 (ix2 0 k) = gA m c (ix1 k) := by
  unfold V
  after_reads_at

/-- The block of weights, read off the array. -/
theorem blk_w (t : Fin cfg0.N) (n : Fin 512) (k : Fin 4096) (N : Fin 1024) (hN : N.val = 512 * (t.val / 8) + n.val) :
    iblk m c 0 t (ix2 n k) = wA m c (ix2 k (colOf N)) := by
  rw [← V_w m c]
  blk_simp [iblk]
  congr 1
  funext a
  match a with
  | 0 => exact Fin.ext (by blk_simp [at_0]; omega)
  | 1 => exact Fin.ext (by blk_simp [at_0])

/-- The block of activations, read off the array. -/
theorem blk_x (t : Fin cfg0.N) (r : Fin 1024) (k : Fin 4096) (R : Fin 8192) (hR : R.val = 1024 * (t.val % 8) + r.val) :
    iblk m c 1 t (ix2 r k) = xA m c (ix2 R k) := by
  blk_simp [iblk]
  rw [V_main_arg1]
  congr 1
  funext a
  match a with
  | 0 => exact Fin.ext (by blk_simp [at_1]; omega)
  | 1 => exact Fin.ext (by blk_simp [at_1])

/-- The gain, read off the array. -/
theorem blk_g (t : Fin cfg0.N) (k : Fin 4096) : iblk m c 2 t (ix2 0 k) = gA m c (ix1 k) := by
  rw [← V_g m c k]
  blk_simp [iblk]
  congr 1
  funext a
  match a with
  | 0 => exact Fin.ext (by blk_simp [at_2])
  | 1 => exact Fin.ext (by blk_simp [at_2])

/-- The kernel's array. -/
theorem kernel_arr : (dats m 0 c).arrAt 3 cfg0.N = want (wA m c) (xA m c) (gA m c) := by
  refine (dats m 0 c).arrAt_eq_of_covers 3 _ (by decide +kernel) fun t hf y => ?_
  obtain ⟨n, r, rfl⟩ : ∃ (n : Fin 512) (r : Fin 1024), y = ix2 n r := ⟨y 0, y 1, by
    funext a
    match a with
    | 0 => rfl
    | 1 => rfl⟩
  blk_simp
  rw [after0_3]
  frame_out
  have ht : t.val < 16 := t.isLt
  have e : ((View.whole main_v5).slice (win0_3.rect t)).emb (ix2 n r)
      = ix2 ⟨512 * (t.val / 8) + n.val, by omega⟩ ⟨1024 * (t.val % 8) + r.val, by omega⟩ := by
    funext a
    match a with
    | 0 => exact Fin.ext (by blk_simp [at_3]; show _ = 512 * (t.val / 8) + n.val; omega)
    | 1 => exact Fin.ext (by blk_simp [at_3]; show _ = 1024 * (t.val % 8) + r.val; omega)
  rw [e]
  refine (pay_apply _ _ _ n r).trans (Finset.sum_congr rfl fun k _ => ?_)
  exact congrArg₂ (· * ·) (congrArg₂ (· * ·) (blk_x m c t r k _ rfl) (blk_g m c t k)) (blk_w m c t n k _ rfl)

end Cert.Values

namespace Cert.Values
open Cert.Reference8Ideal Cert.Reference8Ideal.Gen

/-- The reference's array. -/
theorem reference_arr (w : FVec Ideal Cert.Reference8Ideal.S4096x3072 .f32) (x : FVec Ideal Cert.Reference8Ideal.S8192x4096 .bf16)
    (g : FVec Ideal Cert.Reference8Ideal.S4096 .f32) :
    (truncf .bf16 (concatenate S1024x8192 0 [⟨S512x8192, (transpose S512x8192 [1, 0] (shapeCast _ (extractStridedSlice S8192x1x512 ![0, 3, 0] (shapeCast _ (Host.dotGeneral dot_S8192x4096_S4096x3072_S8192x3072_1_0_0_1_n_n none (mulf (extf .f32 x bitsLt_bf16_f32) (broadcastInDim S8192x4096 ![0, 1] bcast_S1x4096_S8192x4096_0_1 (broadcastInDim S1x4096 ![1] bcast_S4096_S1x4096_1 g))) w) shapeCasts_S8192x3072_S8192x6x512) slices_S8192x6x512_S8192x1x512_0_3_0) shapeCasts_S8192x1x512_S8192x512) transposes_S8192x512_S512x8192_1_0)⟩, ⟨S512x8192, (transpose S512x8192 [1, 0] (shapeCast _ (extractStridedSlice S8192x1x512 ![0, 5, 0] (shapeCast _ (Host.dotGeneral dot_S8192x4096_S4096x3072_S8192x3072_1_0_0_1_n_n none (mulf (extf .f32 x bitsLt_bf16_f32) (broadcastInDim S8192x4096 ![0, 1] bcast_S1x4096_S8192x4096_0_1 (broadcastInDim S1x4096 ![1] bcast_S4096_S1x4096_1 g))) w) shapeCasts_S8192x3072_S8192x6x512) slices_S8192x6x512_S8192x1x512_0_5_0) shapeCasts_S8192x1x512_S8192x512) transposes_S8192x512_S512x8192_1_0)⟩] concatenates_S512x8192_S512x8192_S1024x8192_d0) bitsLt_bf16_f32 : FVec Ideal Cert.Reference8Ideal.S1024x8192 .bf16) = want w x g := by
  funext i
  obtain ⟨n, r, rfl⟩ : ∃ (n : Fin 1024) (r : Fin 8192), i = ix2 n r := ⟨i 0, i 1, by
    funext a
    match a with
    | 0 => rfl
    | 1 => rfl⟩
  unfold want
  pointwise
  unfold colOf
  split_ifs with h
  · rfl
  · refine Finset.sum_congr rfl fun k _ => congrArg (fun d => x (ix2 r k) * g (ix1 k) * w (ix2 k d)) (Fin.ext ?_)
    dsimp only
    omega
  · exact absurd rfl ‹_›

end Cert.Values

end
-- ==== Proof.Norm.lean ====
/-
  The root-mean-square norm of a row of activations. Point t of the grid handles 256 tokens.
-/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise
public import Idealize.ShloMosaic.Lib.ValueIdx
public import Idealize.ShloMosaic.Lib.StableHlo.ReadAt

@[expose] public section

set_option maxRecDepth 16384

noncomputable section

open Idealize.ShloMosaic Idealize.ShloMosaic.TcCoe Idealize.SL.Sem

namespace Cert.Norm
open Cert.Kernel9Ideal Cert.Kernel9Ideal.Gen Cert.Kernel9Ideal.Value

/-- A token's activation, over the root of its row's mean square and a small constant, times the gain. -/
def want (x : (⟨2, ![8192, 4096]⟩ : Shape).Idx → EReal) (g : (⟨1, ![4096]⟩ : Shape).Idx → EReal) :
    (⟨2, ![8192, 4096]⟩ : Shape).Idx → EReal := fun i =>
  x (ix2 (i 0) (i 1)) * Ideal.rsqrt (Ideal.div (∑ k : Fin 4096, x (ix2 (i 0) k) * x (ix2 (i 0) k)) (Ideal.ofBits .f32 0x45800000#32)
    + Ideal.ofBits .f32 0x358637BD#32) * g (ix1 (i 1))

variable (m : (ℓ : Loc nD τ sig) → Buf (Elt Ideal) ℓ) (c : Dev nD)

/-- The activations. -/
abbrev xA : (⟨2, ![8192, 4096]⟩ : Shape).Idx → EReal := m ((c : Thread nD τ).loc main_arg0)
/-- The gain. -/
abbrev gA : (⟨1, ![4096]⟩ : Shape).Idx → EReal := m ((c : Thread nD τ).loc main_arg1)

/-- The block of activations that a point reads. -/
theorem at_0 : ∀ t : Fin cfg0.N, win0_0.index t = ![t.val, 0] := by decide +kernel
/-- The gain, read whole at every point. -/
theorem at_1 : ∀ t : Fin cfg0.N, win0_1.index t = ![0, 0] := by decide +kernel
/-- The block that a point stores. -/
theorem at_2 : ∀ t : Fin cfg0.N, win0_2.index t = ![t.val, 0] := by decide +kernel

/-- The payload at an index, of a row and a gain read elsewhere. -/
theorem pay_apply (x : Vec Ideal S256x4096 .f32) (g : Vec Ideal S1x4096 .f32) (r : Fin 256) (k : Fin 4096) (X : Fin 4096 → EReal) (G : EReal)
    (hx : ∀ l, x (ix2 r l) = X l) (hg : g (ix2 0 k) = G) :
    k0_pay1 (F := Ideal) x g (ix2 r k)
      = X k * Ideal.rsqrt (Ideal.div (∑ l : Fin 4096, X l * X l) (Ideal.ofBits .f32 0x45800000#32) + Ideal.ofBits .f32 0x358637BD#32) * G := by
  pointwise [k0_pay1]
  simp only [hx, hg]

/-- The gain as the kernel is given it. -/
theorem V_g (k : Fin 4096) : V m c main_v0 (ix2 0 k) = gA m c (ix1 k) := by
  unfold V
  after_reads_at

/-- The block of activations, read off the array. -/
theorem blk_x (t : Fin cfg0.N) (r : Fin 256) (k : Fin 4096) (R : Fin 8192) (hR : R.val = 256 * t.val + r.val) :
    iblk m c 0 t (ix2 r k) = xA m c (ix2 R k) := by
  blk_simp [iblk]
  rw [V_main_arg0]
  congr 1
  funext a
  match a with
  | 0 => exact Fin.ext (by blk_simp [at_0]; omega)
  | 1 => exact Fin.ext (by blk_simp [at_0])

/-- The gain, read off the array. -/
theorem blk_g (t : Fin cfg0.N) (k : Fin 4096) : iblk m c 1 t (ix2 0 k) = gA m c (ix1 k) := by
  rw [← V_g m c k]
  blk_simp [iblk]
  congr 1
  funext a
  match a with
  | 0 => exact Fin.ext (by blk_simp [at_1])
  | 1 => exact Fin.ext (by blk_simp [at_1])

/-- The kernel's array. -/
theorem kernel_arr : (dats m 0 c).arrAt 2 cfg0.N = want (xA m c) (gA m c) := by
  refine (dats m 0 c).arrAt_eq_of_covers 2 _ (by decide +kernel) fun t hf y => ?_
  obtain ⟨r, k, rfl⟩ : ∃ (r : Fin 256) (k : Fin 4096), y = ix2 r k := ⟨y 0, y 1, by
    funext a
    match a with
    | 0 => rfl
    | 1 => rfl⟩
  blk_simp
  rw [after0_2]
  frame_out
  have ht : t.val < 32 := t.isLt
  have e : ((View.whole main_v1).slice (win0_2.rect t)).emb (ix2 r k) = ix2 ⟨256 * t.val + r.val, by omega⟩ k := by
    funext a
    match a with
    | 0 => exact Fin.ext (by blk_simp [at_2]; show _ = 256 * t.val + r.val; omega)
    | 1 => exact Fin.ext (by blk_simp [at_2])
  rw [e]
  exact pay_apply _ _ r k _ _ (fun l => blk_x m c t r l _ rfl) (blk_g m c t k)

end Cert.Norm

namespace Cert.Norm
open Cert.Reference9Ideal Cert.Reference9Ideal.Gen

/-- The reference's array. -/
theorem reference_arr (x : FVec Ideal Cert.Reference9Ideal.S8192x4096 .f32) (g : FVec Ideal Cert.Reference9Ideal.S4096 .f32) :
    (truncf .bf16 (mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))) bitsLt_bf16_f32 : FVec Ideal Cert.Reference9Ideal.S8192x4096 .bf16) = want x g := by
  funext i
  obtain ⟨r, k, rfl⟩ : ∃ (r : Fin 8192) (k : Fin 4096), i = ix2 r k := ⟨i 0, i 1, by
    funext a
    match a with
    | 0 => rfl
    | 1 => rfl⟩
  unfold want
  pointwise

end Cert.Norm

end
-- ==== Proof.NsaGates.lean ====
/-
  The gates of the sparse attention's three branches, one row per gate, the rows ordered by group, branch and head of the
  group. Point t of the grid handles all 96 gates of 1024 tokens, over all 4096 input features; the norm's gain, one number
  to an input feature, multiplies the weights.
-/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise
public import Idealize.ShloMosaic.Lib.ValueIdx
public import Idealize.ShloMosaic.Lib.StableHlo.ReadAt
public import Idealize.ShloMosaic.Lib.Routing.OpsSet

@[expose] public section

set_option maxRecDepth 16384

noncomputable section

open Idealize.ShloMosaic Idealize.ShloMosaic.TcCoe Idealize.SL.Sem

namespace Cert.NsaGates
open Cert.Kernel10Ideal Cert.Kernel10Ideal.Gen Cert.Kernel10Ideal.Value

/-- The shared projection's column that is gate `n`: after the 4096 columns of the queries, a branch has 32 columns, a group 8 of them. -/
def colOf (n : Fin 96) : Fin 4192 := ⟨4096 + (32 * (n.val % 24 / 8) + 8 * (n.val / 24) + n.val % 8), by omega⟩

/-- The normed activations, times the gain, projected, through the sigmoid: gate `n` of token `r`. -/
def want (w : (⟨3, ![1, 4096, 4192]⟩ : Shape).Idx → EReal) (x : (⟨2, ![8192, 4096]⟩ : Shape).Idx → EReal)
    (g : (⟨2, ![2, 4096]⟩ : Shape).Idx → EReal) : (⟨2, ![96, 8192]⟩ : Shape).Idx → EReal := fun i =>
  Ideal.logistic (∑ k : Fin 4096, x (ix2 (i 1) k) * g (ix2 1 k) * w (ix3 0 k (colOf (i 0))))

variable (m : (ℓ : Loc nD τ sig) → Buf (Elt Ideal) ℓ) (c : Dev nD)

/-- The weights. -/
abbrev wA : (⟨3, ![1, 4096, 4192]⟩ : Shape).Idx → EReal := m ((c : Thread nD τ).loc main_arg0)
/-- The normed activations. -/
abbrev xA : (⟨2, ![8192, 4096]⟩ : Shape).Idx → EReal := m ((c : Thread nD τ).loc main_arg1)
/-- The gain. -/
abbrev gA : (⟨2, ![2, 4096]⟩ : Shape).Idx → EReal := m ((c : Thread nD τ).loc main_arg2)

/-- The weights, read whole at every point. -/
theorem at_0 : ∀ t : Fin cfg0.N, win0_0.index t = ![0, 0] := by decide +kernel
/-- The block of activations that a point reads. -/
theorem at_1 : ∀ t : Fin cfg0.N, win0_1.index t = ![t.val, 0] := by decide +kernel
/-- The gain, read whole at every point. -/
theorem at_2 : ∀ t : Fin cfg0.N, win0_2.index t = ![0, 0] := by decide +kernel
/-- The block that a point stores. -/
theorem at_3 : ∀ t : Fin cfg0.N, win0_3.index t = ![0, t.val] := by decide +kernel

/-- The payload at an index. -/
theorem pay_apply (w : Vec Ideal S96x4096 .f32) (x : Vec Ideal S1024x4096 .bf16) (g : Vec Ideal S1x4096 .f32) (n : Fin 96) (r : Fin 1024)
    (W X G : Fin 4096 → EReal) (hw : ∀ k, w (ix2 n k) = W k) (hx : ∀ k, x (ix2 r k) = X k) (hg : ∀ k, g (ix2 0 k) = G k) :
    k0_pay1 (F := Ideal) w x g (ix2 n r) = Ideal.logistic (∑ k : Fin 4096, X k * G k * W k) := by
  pointwise [k0_pay1]
  simp only [hw, hx, hg]
  refine congrArg Ideal.logistic (Finset.sum_congr rfl fun k _ => ?_)
  rw [mul_comm, mul_comm (W _), ← mul_assoc]

/-- The padding writes every element at its own place: there are 24 rows to a group already. -/
theorem pad_apply (x u : FVec Ideal S4x24x4096 .f32) (i : IVec S0 32) (y : S4x24x4096.Idx) :
    Host.scatter scatter_S4x24x4096_S0_S4x24x4096_012_n_n_0 (fun _ b => b) x i u y = u y := by
  have hl : ∀ k : S4x24x4096.Idx, scatter_S4x24x4096_S0_S4x24x4096_012_n_n_0.resultIdx? k i = some y ↔ k = y := fun k => by
    rw [Routing.resultIdx?_eq_some]
    have h : ∀ a, scatter_S4x24x4096_S0_S4x24x4096_012_n_n_0.start k i a + (scatter_S4x24x4096_S0_S4x24x4096_012_n_n_0.window k a : Int) = (k a).val := by
      intro a
      fin_cases a <;> exact zero_add _
    constructor
    · intro q
      funext a
      have := q a
      rw [h a] at this
      exact Fin.ext (by omega)
    · rintro rfl a
      exact h a
  exact Routing.scatter_set_hit _ _ _ _ _ _ (fun k hk => by rw [(hl k).1 hk]) y ((hl y).2 rfl)

/-- The weights as the kernel is given them: the gates' columns as rows. -/
theorem V_w (n : Fin 96) (k : Fin 4096) : V m c main_v7 (ix2 n k) = wA m c (ix3 0 k (colOf n)) := by
  unfold V
  after_reads_at
  refine (pad_apply _ _ _ _).trans (congrArg (fun d => wA m c (ix3 0 k d)) (Fin.ext ?_))
  show 4096 + (n.val % 24 / 8 * 32 + n.val / 24 * 8 + n.val % 24 % 8) = 4096 + (32 * (n.val % 24 / 8) + 8 * (n.val / 24) + n.val % 8)
  omega

/-- The gain as the kernel is given it. -/
theorem V_g (k : Fin 4096) : V m c main_v10 (ix2 0 k) = gA m c (ix2 1 k) := by
  unfold V
  after_reads_at

/-- The first window's block is the whole array, whatever the array holds. -/
theorem read_w (A : Buf (Elt Ideal) ((c : Thread nD τ).loc main_v7)) (t : Fin cfg0.N) (n : Fin 96) (k : Fin 4096) :
    ((cfg0.win 0).blk t).view.read (Elt Ideal) A (ix2 n k) = A (ix2 n k) := by
  blk_simp
  congr 1
  funext a
  match a with
  | 0 => exact Fin.ext (by blk_simp [at_0])
  | 1 => exact Fin.ext (by blk_simp [at_0])

/-- The weights, read off the array. -/
theorem blk_w (t : Fin cfg0.N) (n : Fin 96) (k : Fin 4096) : iblk m c 0 t (ix2 n k) = wA m c (ix3 0 k (colOf n)) :=
  (read_w c (V m c main_v7) t n k).trans (V_w m c n k)

/-- The block of activations, read off the array. -/
theorem blk_x (t : Fin cfg0.N) (r : Fin 1024) (k : Fin 4096) (R : Fin 8192) (hR : R.val = 1024 * t.val + r.val) :
    iblk m c 1 t (ix2 r k) = xA m c (ix2 R k) := by
  blk_simp [iblk]
  rw [V_main_arg1]
  congr 1
  funext a
  match a with
  | 0 => exact Fin.ext (by blk_simp [at_1]; omega)
  | 1 => exact Fin.ext (by blk_simp [at_1])

/-- The gain, read off the array. -/
theorem blk_g (t : Fin cfg0.N) (k : Fin 4096) : iblk m c 2 t (ix2 0 k) = gA m c (ix2 1 k) := by
  rw [← V_g m c k]
  blk_simp [iblk]
  congr 1
  funext a
  match a with
  | 0 => exact Fin.ext (by blk_simp [at_2])
  | 1 => exact Fin.ext (by blk_simp [at_2])

/-- The kernel's array. -/
theorem kernel_arr : (dats m 0 c).arrAt 3 cfg0.N = want (wA m c) (xA m c) (gA m c) := by
  refine (dats m 0 c).arrAt_eq_of_covers 3 _ (by decide +kernel) fun t hf y => ?_
  obtain ⟨n, r, rfl⟩ : ∃ (n : Fin 96) (r : Fin 1024), y = ix2 n r := ⟨y 0, y 1, by
    funext a
    match a with
    | 0 => rfl
    | 1 => rfl⟩
  blk_simp
  rw [after0_3]
  frame_out
  have ht : t.val < 8 := t.isLt
  have e : ((View.whole main_v11).slice (win0_3.rect t)).emb (ix2 n r) = ix2 n ⟨1024 * t.val + r.val, by omega⟩ := by
    funext a
    match a with
    | 0 => exact Fin.ext (by blk_simp [at_3])
    | 1 => exact Fin.ext (by blk_simp [at_3]; show _ = 1024 * t.val + r.val; omega)
  rw [e]
  exact pay_apply _ _ _ n r _ _ _ (fun k => blk_w m c t n k) (fun k => blk_x m c t r k _ rfl) (fun k => blk_g m c t k)

end Cert.NsaGates

namespace Cert.NsaGates
open Cert.Reference10Ideal Cert.Reference10Ideal.Gen

/-- The reference's array. -/
theorem reference_arr (w : FVec Ideal Cert.Reference10Ideal.S1x4096x4192 .f32) (x : FVec Ideal Cert.Reference10Ideal.S8192x4096 .bf16)
    (g : FVec Ideal Cert.Reference10Ideal.S2x4096 .f32) :
    (shapeCast _ (transpose S4x3x8x8192 [2, 1, 3, 0] (shapeCast _ (Host.divf (broadcastInDim S8192x96 ![] bcast_S_S8192x96 (constant S_ .f32 0x3F800000#32)) (addf (broadcastInDim S8192x96 ![] bcast_S_S8192x96 (constant S_ .f32 0x3F800000#32)) (Host.exp (Host.negf (extractStridedSlice S8192x96 ![0, 4096] (Host.dotGeneral dot_S8192x4096_S4096x4192_S8192x4192_1_0_0_1_n_n none (mulf (extf .f32 x bitsLt_bf16_f32) (broadcastInDim S8192x4096 ![0, 1] bcast_S1x4096_S8192x4096_0_1 (broadcastInDim S1x4096 ![1] bcast_S4096_S1x4096_1 (shapeCast _ (extractStridedSlice S1x4096 ![1, 0] g slices_S2x4096_S1x4096_1_0) shapeCasts_S1x4096_S4096)))) (shapeCast _ w shapeCasts_S1x4096x4192_S4096x4192)) slices_S8192x4192_S8192x96_0_4096))))) shapeCasts_S8192x96_S8192x3x4x8) transposes_S8192x3x4x8_S4x3x8x8192_2_1_3_0) shapeCasts_S4x3x8x8192_S96x8192 : FVec Ideal Cert.Reference10Ideal.S96x8192 .f32) = want w x g := by
  funext i
  obtain ⟨n, r, rfl⟩ : ∃ (n : Fin 96) (r : Fin 8192), i = ix2 n r := ⟨i 0, i 1, by
    funext a
    match a with
    | 0 => rfl
    | 1 => rfl⟩
  unfold want
  pointwise
  refine congrArg Ideal.logistic (Finset.sum_congr rfl fun k _ => congrArg (fun d => x (ix2 r k) * g (ix2 1 k) * w (ix3 0 k d)) (Fin.ext ?_))
  show 4096 + (n.val / 8 % 3 * 32 + n.val / 24 * 8 + n.val % 8) = 4096 + (32 * (n.val % 24 / 8) + 8 * (n.val / 24) + n.val % 8)
  omega

end Cert.NsaGates

end
-- ==== Proof.Gates.lean ====
/-
  The mLSTM mixer's log gates, as columns and as rows: the input and forget gates of the eight heads, side by side, capped;
  of a forget gate the logarithm of its sigmoid. Point t of the grid handles 512 tokens, over all 4096 input features. The
  array of columns is padded from 16 to 128 with projections whose weights and bias are zero.
-/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Pointwise
public import Idealize.ShloMosaic.Lib.ValueIdx
public import Idealize.ShloMosaic.Lib.StableHlo.ReadAt
public import Idealize.ShloMosaic.Lib.Routing.OpsOne

@[expose] public section

set_option maxRecDepth 16384

noncomputable section

open Idealize.ShloMosaic Idealize.ShloMosaic.TcCoe Idealize.SL.Sem

namespace Cert.Gates
open Cert.Kernel11Ideal Cert.Kernel11Ideal.Gen Cert.Kernel11Ideal.Value

/-- The soft cap, at fifteen. -/
def cap (z : EReal) : EReal := Ideal.ofBits .f32 0x41700000#32 * Ideal.tanh (Ideal.div z (Ideal.ofBits .f32 0x41700000#32))

/-- The logarithm of the sigmoid, with no exponential of a positive number. -/
def logSig (z : EReal) : EReal := min z 0 - Ideal.log (1 + Ideal.exp (0 - max z (-z)))

/-- Gate `n` of its projection: an input gate is capped, of the capped forget gate the logarithm of the sigmoid is taken. -/
def gate (n : Nat) (z : EReal) : EReal := if n < 8 then cap z else logSig (cap z)

/-- The projection of token `r` to gate `n`, with the bias. -/
def pre (x : (⟨2, ![8192, 4096]⟩ : Shape).Idx → EReal) (w : (⟨3, ![1, 4096, 12304]⟩ : Shape).Idx → EReal)
    (b : (⟨2, ![1, 16]⟩ : Shape).Idx → EReal) (r : Fin 8192) (n : Fin 16) : EReal :=
  ∑ k : Fin 4096, x (ix2 r k) * w (ix3 0 k ⟨12288 + n.val, by omega⟩) + b (ix2 0 n)

/-- The gates as columns, padded. -/
def wantCol (x : (⟨2, ![8192, 4096]⟩ : Shape).Idx → EReal) (w : (⟨3, ![1, 4096, 12304]⟩ : Shape).Idx → EReal)
    (b : (⟨2, ![1, 16]⟩ : Shape).Idx → EReal) : (⟨2, ![8192, 128]⟩ : Shape).Idx → EReal := fun i =>
  gate (i 1).val (if h : (i 1).val < 16 then pre x w b (i 0) ⟨(i 1).val, h⟩ else 0)

/-- The gates as rows. -/
def wantRow (x : (⟨2, ![8192, 4096]⟩ : Shape).Idx → EReal) (w : (⟨3, ![1, 4096, 12304]⟩ : Shape).Idx → EReal)
    (b : (⟨2, ![1, 16]⟩ : Shape).Idx → EReal) : (⟨2, ![16, 8192]⟩ : Shape).Idx → EReal := fun i =>
  gate (i 0).val (pre x w b (i 1) (i 0))

variable (m : (ℓ : Loc nD τ sig) → Buf (Elt Ideal) ℓ) (c : Dev nD)

/-- The normed activations. -/
abbrev xA : (⟨2, ![8192, 4096]⟩ : Shape).Idx → EReal := m ((c : Thread nD τ).loc main_arg0)
/-- The weights of the mixer's input projection, the gates' among them. -/
abbrev wA : (⟨3, ![1, 4096, 12304]⟩ : Shape).Idx → EReal := m ((c : Thread nD τ).loc main_arg1)
/-- The gates' bias. -/
abbrev bA : (⟨2, ![1, 16]⟩ : Shape).Idx → EReal := m ((c : Thread nD τ).loc main_arg2)

/-- The block of activations that a point reads. -/
theorem at_0 : ∀ t : Fin cfg0.N, win0_0.index t = ![t.val, 0] := by decide +kernel
/-- The padded weights, read whole at every point. -/
theorem at_1 : ∀ t : Fin cfg0.N, win0_1.index t = ![0, 0] := by decide +kernel
/-- The weights as rows, read whole at every point. -/
theorem at_2 : ∀ t : Fin cfg0.N, win0_2.index t = ![0, 0] := by decide +kernel
/-- The padded bias, read whole at every point. -/
theorem at_3 : ∀ t : Fin cfg0.N, win0_3.index t = ![0, 0] := by decide +kernel
/-- The bias as a column, read whole at every point. -/
theorem at_4 : ∀ t : Fin cfg0.N, win0_4.index t = ![0, 0] := by decide +kernel
/-- The block of columns that a point stores. -/
theorem at_5 : ∀ t : Fin cfg0.N, win0_5.index t = ![t.val, 0] := by decide +kernel
/-- The block of rows that a point stores. -/
theorem at_6 : ∀ t : Fin cfg0.N, win0_6.index t = ![0, t.val] := by decide +kernel

/-- The choice between the two kinds of gate, by the gate's number. -/
theorem select_slt (n : Nat) (hn : n < 128) (a b : EReal) :
    Scalar.select (IntOp.cmpi .slt (BitVec.ofNat 32 n) 8#32) a b = if n < 8 then a else b := by
  rw [WordCmp.cmpi_slt_ofNat (by omega) (by decide)]
  by_cases h : n < 8
  · simp [h, Scalar.select]
  · simp [h, Scalar.select]

/-- The columns' payload at an index. -/
theorem pay2_apply (x : Vec Ideal S512x4096 .bf16) (w : Vec Ideal S4096x128 .bf16) (b : Vec Ideal S1x128 .f32) (r : Fin 512) (n : Fin 128)
    (X W : Fin 4096 → EReal) (B : EReal) (hx : ∀ k, x (ix2 r k) = X k) (hw : ∀ k, w (ix2 k n) = W k) (hb : b (ix2 0 n) = B) :
    k0_pay2 (F := Ideal) x w b (ix2 r n) = gate n.val (∑ k : Fin 4096, X k * W k + B) := by
  pointwise [k0_pay2]
  rw [select_slt _ n.isLt]
  simp only [hx, hw, hb]
  rfl

/-- The rows' payload at an index. -/
theorem pay1_apply (x : Vec Ideal S512x4096 .bf16) (w : Vec Ideal S16x4096 .bf16) (b : Vec Ideal S16x1 .f32) (n : Fin 16) (r : Fin 512)
    (X W : Fin 4096 → EReal) (B : EReal) (hx : ∀ k, x (ix2 r k) = X k) (hw : ∀ k, w (ix2 n k) = W k) (hb : b (ix2 n 0) = B) :
    k0_pay1 (F := Ideal) (k0_pay3 x w b) (ix2 n r) = gate n.val (∑ k : Fin 4096, X k * W k + B) := by
  pointwise [k0_pay1, k0_pay3]
  rw [select_slt _ (by omega)]
  simp only [hx, hw, hb, mul_comm (W _)]
  rfl

/-- The weights' padding: the first sixteen columns are written, the others are as before. -/
theorem padW_apply (x : FVec Ideal S4096x128 .f32) (u : FVec Ideal S4096x16 .f32) (i : IVec S1 32) (hi : ∀ j, i j = 0#32) (k : Fin 4096) (n : Fin 128) :
    Host.scatter scatter_S4096x128_S1_S4096x16_01_n_1_0 (fun _ b => b) x i u (ix2 k n)
      = if h : n.val < 16 then u (ix2 k ⟨n.val, h⟩) else x (ix2 k n) := by
  have hl : ∀ (q : Fin 4096) (p : Fin 16), scatter_S4096x128_S1_S4096x16_01_n_1_0.resultIdx? (ix2 q p) i = some (ix2 k n)
      ↔ q.val = k.val ∧ p.val = n.val := fun q p => by
    refine (Routing.resultIdx?_ix2 _ _ _ _ _).trans ?_
    have h0 : scatter_S4096x128_S1_S4096x16_01_n_1_0.start (ix2 q p) i 0 + (scatter_S4096x128_S1_S4096x16_01_n_1_0.window (ix2 q p) 0 : Int) = (q.val : Int) :=
      zero_add _
    have h1 : scatter_S4096x128_S1_S4096x16_01_n_1_0.start (ix2 q p) i 1 + (scatter_S4096x128_S1_S4096x16_01_n_1_0.window (ix2 q p) 1 : Int) = (p.val : Int) := by
      have : scatter_S4096x128_S1_S4096x16_01_n_1_0.start (ix2 q p) i 1 = (i (ix1 0)).toInt := congrArg (fun j => (i j).toInt) (funext fun a => by
        match a with
        | 0 => exact Subsingleton.elim (α := Fin 1) _ _)
      rw [this, hi]
      exact zero_add _
    rw [h0, h1]
    omega
  have e : ∀ y : S4096x16.Idx, y = ix2 (y 0) (y 1) := fun y => by
    funext a
    match a with
    | 0 => rfl
    | 1 => rfl
  split_ifs with h
  · refine Routing.scatter_set_hit _ _ _ _ _ _ (fun y hy => ?_) (ix2 k ⟨n.val, h⟩) ((hl _ _).2 ⟨rfl, rfl⟩)
    rw [e y] at hy ⊢
    have := (hl _ _).1 hy
    rw [Fin.ext this.1, show y 1 = ⟨n.val, h⟩ from Fin.ext this.2]
    rfl
  · refine Routing.scatter_set_miss _ _ _ _ _ fun y hy => h ?_
    rw [e y] at hy
    have := ((hl _ _).1 hy).2
    have hlt : (y 1).val < 16 := (y 1).isLt
    omega

/-- The bias's padding, likewise. -/
theorem padB_apply (x : FVec Ideal S1x128 .f32) (u : FVec Ideal S16 .f32) (i : IVec S2 32) (hi : ∀ j, i j = 0#32) (n : Fin 128) :
    Host.scatter scatter_S1x128_S2_S16_0_0_01_0 (fun _ b => b) x i u (ix2 0 n)
      = if h : n.val < 16 then u (ix1 ⟨n.val, h⟩) else x (ix2 0 n) := by
  have hl : ∀ p : Fin 16, scatter_S1x128_S2_S16_0_0_01_0.resultIdx? (ix1 p) i = some (ix2 (0 : Fin 1) n) ↔ p.val = n.val := fun p => by
    refine (Routing.resultIdx?_ix2 _ _ _ _ _).trans ?_
    have hs : ∀ q : Fin 2, scatter_S1x128_S2_S16_0_0_01_0.start (ix1 p) i q = 0 := fun q =>
      (Routing.start_pair _ rfl rfl i _ q).trans (by rw [hi]; rfl)
    have h0 : scatter_S1x128_S2_S16_0_0_01_0.window (ix1 p) 0 = 0 := rfl
    have h1 : scatter_S1x128_S2_S16_0_0_01_0.window (ix1 p) 1 = p.val := rfl
    rw [hs 0, hs 1, h0, h1]
    have : ((0 : Fin 1).val : Int) = 0 := rfl
    omega
  have e : ∀ y : S16.Idx, y = ix1 (y 0) := fun y => by
    funext a
    match a with
    | 0 => rfl
  split_ifs with h
  · refine Routing.scatter_set_hit _ _ _ _ _ _ (fun y hy => ?_) (ix1 ⟨n.val, h⟩) ((hl _).2 rfl)
    rw [e y] at hy ⊢
    rw [show y 0 = ⟨n.val, h⟩ from Fin.ext ((hl _).1 hy)]
    rfl
  · refine Routing.scatter_set_miss _ _ _ _ _ fun y hy => h ?_
    rw [e y] at hy
    have := (hl _).1 hy
    have hlt : (y 0).val < 16 := (y 0).isLt
    omega

/-- The padded weights as the kernel is given them. -/
theorem V_w (k : Fin 4096) (n : Fin 128) :
    V m c main_v6 (ix2 k n) = (if h : n.val < 16 then wA m c (ix3 0 k ⟨12288 + n.val, by omega⟩) else 0 : EReal) := by
  unfold V
  after_reads_at
  refine (padW_apply _ _ _ (fun _ => rfl) k n).trans ?_
  split_ifs with h
  · rfl
  · exact Ideal.ofBits_zero_f32

/-- The weights as rows. -/
theorem V_wt (k : Fin 4096) (n : Fin 16) : V m c main_v8 (ix2 n k) = wA m c (ix3 0 k ⟨12288 + n.val, by omega⟩) := by
  unfold V
  after_reads_at

/-- The padded bias. -/
theorem V_b (n : Fin 128) : V m c main_v13 (ix2 0 n) = (if h : n.val < 16 then bA m c (ix2 0 ⟨n.val, h⟩) else 0 : EReal) := by
  unfold V
  after_reads_at
  refine (padB_apply _ _ _ (fun j => ?_) n).trans ?_
  · obtain ⟨q, rfl⟩ : ∃ q : Fin 2, j = ix1 q := ⟨j 0, by
      funext a
      match a with
      | 0 => rfl⟩
    fin_cases q
    · pointwise
      after_reads_at
    · pointwise
      after_reads_at
  split_ifs with h
  · rfl
  · exact Ideal.ofBits_zero_f32

/-- The bias as a column. -/
theorem V_bt (n : Fin 16) : V m c main_v14 (ix2 n 0) = bA m c (ix2 0 n) := by
  unfold V
  after_reads_at

/-- A window that is a whole array: its block is the array, whatever it holds. -/
theorem read_1 (A : Buf (Elt Ideal) ((c : Thread nD τ).loc main_v6)) (t : Fin cfg0.N) (k : Fin 4096) (n : Fin 128) :
    ((cfg0.win 1).blk t).view.read (Elt Ideal) A (ix2 k n) = A (ix2 k n) := by
  blk_simp
  congr 1
  funext a
  match a with
  | 0 => exact Fin.ext (by blk_simp [at_1])
  | 1 => exact Fin.ext (by blk_simp [at_1])

/-- The same of the weights as rows. -/
theorem read_2 (A : Buf (Elt Ideal) ((c : Thread nD τ).loc main_v8)) (t : Fin cfg0.N) (n : Fin 16) (k : Fin 4096) :
    ((cfg0.win 2).blk t).view.read (Elt Ideal) A (ix2 n k) = A (ix2 n k) := by
  blk_simp
  congr 1
  funext a
  match a with
  | 0 => exact Fin.ext (by blk_simp [at_2])
  | 1 => exact Fin.ext (by blk_simp [at_2])

/-- The same of the padded bias. -/
theorem read_3 (A : Buf (Elt Ideal) ((c : Thread nD τ).loc main_v13)) (t : Fin cfg0.N) (n : Fin 128) :
    ((cfg0.win 3).blk t).view.read (Elt Ideal) A (ix2 0 n) = A (ix2 0 n) := by
  blk_simp
  congr 1
  funext a
  match a with
  | 0 => exact Fin.ext (by blk_simp [at_3])
  | 1 => exact Fin.ext (by blk_simp [at_3])

/-- The same of the bias as a column. -/
theorem read_4 (A : Buf (Elt Ideal) ((c : Thread nD τ).loc main_v14)) (t : Fin cfg0.N) (n : Fin 16) :
    ((cfg0.win 4).blk t).view.read (Elt Ideal) A (ix2 n 0) = A (ix2 n 0) := by
  blk_simp
  congr 1
  funext a
  match a with
  | 0 => exact Fin.ext (by blk_simp [at_4])
  | 1 => exact Fin.ext (by blk_simp [at_4])

/-- The block of activations, read off the array. -/
theorem blk_x (t : Fin cfg0.N) (r : Fin 512) (k : Fin 4096) (R : Fin 8192) (hR : R.val = 512 * t.val + r.val) :
    iblk m c 0 t (ix2 r k) = xA m c (ix2 R k) := by
  blk_simp [iblk]
  rw [V_main_arg0]
  congr 1
  funext a
  match a with
  | 0 => exact Fin.ext (by blk_simp [at_0]; omega)
  | 1 => exact Fin.ext (by blk_simp [at_0])

/-- A padding gate's projection is zero, any other's is as it was. -/
theorem pad_sum (x : (⟨2, ![8192, 4096]⟩ : Shape).Idx → EReal) (w : (⟨3, ![1, 4096, 12304]⟩ : Shape).Idx → EReal)
    (b : (⟨2, ![1, 16]⟩ : Shape).Idx → EReal) (r : Fin 8192) (n : Fin 128) :
    ∑ k : Fin 4096, x (ix2 r k) * (if h : n.val < 16 then w (ix3 0 k ⟨12288 + n.val, by omega⟩) else 0)
        + (if h : n.val < 16 then b (ix2 0 ⟨n.val, h⟩) else 0)
      = if h : n.val < 16 then pre x w b r ⟨n.val, h⟩ else 0 := by
  split_ifs with h
  · rfl
  · simp

/-- The kernel's columns. -/
theorem kernel_col : (dats m 0 c).arrAt 5 cfg0.N = wantCol (xA m c) (wA m c) (bA m c) := by
  refine (dats m 0 c).arrAt_eq_of_covers 5 _ (by decide +kernel) fun t hf y => ?_
  obtain ⟨r, n, rfl⟩ : ∃ (r : Fin 512) (n : Fin 128), y = ix2 r n := ⟨y 0, y 1, by
    funext a
    match a with
    | 0 => rfl
    | 1 => rfl⟩
  blk_simp
  rw [after0_5]
  frame_out
  have ht : t.val < 16 := t.isLt
  have e : ((View.whole main_v15_0).slice (win0_5.rect t)).emb (ix2 r n) = ix2 ⟨512 * t.val + r.val, by omega⟩ n := by
    funext a
    match a with
    | 0 => exact Fin.ext (by blk_simp [at_5]; show _ = 512 * t.val + r.val; omega)
    | 1 => exact Fin.ext (by blk_simp [at_5])
  rw [e]
  exact (pay2_apply _ _ _ r n _ _ _ (fun k => blk_x m c t r k _ rfl) (fun k => (read_1 c _ t k n).trans (V_w m c k n))
    ((read_3 c _ t n).trans (V_b m c n))).trans (congrArg (gate n.val) (pad_sum (xA m c) (wA m c) (bA m c) _ n))

/-- The kernel's rows. -/
theorem kernel_row : (dats m 0 c).arrAt 6 cfg0.N = wantRow (xA m c) (wA m c) (bA m c) := by
  refine (dats m 0 c).arrAt_eq_of_covers 6 _ (by decide +kernel) fun t hf y => ?_
  obtain ⟨n, r, rfl⟩ : ∃ (n : Fin 16) (r : Fin 512), y = ix2 n r := ⟨y 0, y 1, by
    funext a
    match a with
    | 0 => rfl
    | 1 => rfl⟩
  blk_simp
  rw [after0_6]
  frame_out
  have ht : t.val < 16 := t.isLt
  have e : ((View.whole main_v15_1).slice (win0_6.rect t)).emb (ix2 n r) = ix2 n ⟨512 * t.val + r.val, by omega⟩ := by
    funext a
    match a with
    | 0 => exact Fin.ext (by blk_simp [at_6])
    | 1 => exact Fin.ext (by blk_simp [at_6]; show _ = 512 * t.val + r.val; omega)
  rw [e]
  exact pay1_apply _ _ _ n r _ _ _ (fun k => blk_x m c t r k _ rfl) (fun k => (read_2 c _ t n k).trans (V_wt m c k n))
    ((read_4 c _ t n).trans (V_bt m c n))

end Cert.Gates

namespace Cert.Gates
open Cert.Reference11Ideal Cert.Reference11Ideal.Gen Cert.Reference11Ideal.Value

/-- A capped number is finite. -/
theorem cap_real (z : EReal) : ∃ q : ℝ, cap z = q := by
  have h15 : Ideal.ofBits .f32 0x41700000#32 = ((15 : ℝ) : EReal) := by
    simp [Ideal.ofBits, Ideal.ieee]
    rw [← EReal.coe_mul]
    norm_num
  have ht : ∀ y : EReal, ∃ q : ℝ, Ideal.tanh y = q := fun y => by
    induction y with
    | bot => exact ⟨-1, rfl⟩
    | top => exact ⟨1, rfl⟩
    | coe y => exact ⟨Real.tanh y, rfl⟩
  obtain ⟨q, hq⟩ := ht (Ideal.div z (Ideal.ofBits .f32 0x41700000#32))
  exact ⟨15 * q, by unfold cap; rw [hq, h15, EReal.coe_mul]⟩

/-- The logarithm of the sigmoid, as the negated softplus of the negated number: the same, of a finite number. -/
theorem logSig_eq (q : ℝ) :
    -(max (-(q : EReal)) 0 + Ideal.log1p (Ideal.exp (-(max (-(q : EReal)) (-(-(q : EReal))))))) = logSig q := by
  unfold logSig Ideal.log1p
  have hx : max (-(q : EReal)) 0 = ((max (-q) 0 : ℝ) : EReal) := (EReal.coe_strictMono.monotone.map_max).symm
  have hm : -(max (-(q : EReal)) 0) = min (q : EReal) 0 := by
    rw [hx, ← EReal.coe_neg, show -(max (-q) 0) = min q 0 by rw [← min_neg_neg, neg_neg, neg_zero]]
    exact EReal.coe_strictMono.monotone.map_min
  rw [neg_neg, zero_sub, max_comm (-(q : EReal)) q, EReal.neg_add, hm]
  · exact Or.inl (by rw [hx]; exact EReal.coe_ne_bot _)
  · exact Or.inl (by rw [hx]; exact EReal.coe_ne_top _)

/-- The reference's projections, padded and capped. -/
def capped (x : FVec Ideal S8192x4096 .bf16) (w : FVec Ideal S1x4096x12304 .f32) (b : FVec Ideal S1x16 .f32) : FVec Ideal S8192x128 .f32 :=
  mulf (broadcastInDim S8192x128 ![] bcast_S_S8192x128 (constant S_ .f32 0x41700000#32)) (Host.tanh (Host.divf (pad S8192x128 ![0, 0] ![0, 112] ![0, 0] (addf (extractStridedSlice S8192x16 ![0, 12288] (Host.dotGeneral dot_S8192x4096_S4096x12304_S8192x12304_1_0_0_1_n_n none (extf .f32 x bitsLt_bf16_f32) (shapeCast _ w shapeCasts_S1x4096x12304_S4096x12304)) slices_S8192x12304_S8192x16_0_12288) (broadcastInDim S8192x16 ![0, 1] bcast_S1x16_S8192x16_0_1 (broadcastInDim S1x16 ![1] bcast_S16_S1x16_1 (shapeCast _ b shapeCasts_S1x16_S16)))) (sitofp .f32 (constantI S_ 32 0#32)) pads_S8192x16_S8192x128_000_01120 h_S_) (broadcastInDim S8192x128 ![] bcast_S_S8192x128 (constant S_ .f32 0x41700000#32))))

/-- The reference's negated softplus of an array. -/
def softs (Y : FVec Ideal S8192x120 .f32) : FVec Ideal S8192x120 .f32 :=
  Host.negf (select (cmpf .une (subf Y (broadcastInDim S8192x120 ![] bcast_S_S8192x120 (constant S_ .f32 0x00000000#32))) (subf Y (broadcastInDim S8192x120 ![] bcast_S_S8192x120 (constant S_ .f32 0x00000000#32)))) (addf Y (broadcastInDim S8192x120 ![] bcast_S_S8192x120 (constant S_ .f32 0x00000000#32))) (addf (maximumf Y (broadcastInDim S8192x120 ![] bcast_S_S8192x120 (constant S_ .f32 0x00000000#32))) (Host.log1p (Host.exp (Host.negf (Host.absf (subf Y (broadcastInDim S8192x120 ![] bcast_S_S8192x120 (constant S_ .f32 0x00000000#32)))))))))

/-- The reference's gates of the capped projections. -/
def cols (P : FVec Ideal S8192x128 .f32) : FVec Ideal S8192x128 .f32 :=
  concatenate S8192x128 1 [⟨S8192x8, (extractStridedSlice S8192x8 ![0, 0] P slices_S8192x128_S8192x8_0_0)⟩, ⟨S8192x120, softs (Host.negf (extractStridedSlice S8192x120 ![0, 8] P slices_S8192x128_S8192x120_0_8))⟩] concatenates_S8192x8_S8192x120_S8192x128_d1

/-- The capped projections at an index. -/
theorem capped_apply (x : FVec Ideal S8192x4096 .bf16) (w : FVec Ideal S1x4096x12304 .f32) (b : FVec Ideal S1x16 .f32) (r : Fin 8192) (n : Fin 128) :
    capped x w b (ix2 r n) = cap (if h : n.val < 16 then pre x w b r ⟨n.val, h⟩ else 0) := by
  have h0 : (FloatOps.sitofp .f32 0#32 : Ideal .f32) = (0 : EReal) := by
    show (((0#32).toInt : ℝ) : EReal) = 0
    simp
  pointwise [capped]
  rw [h0]
  rfl

/-- The negated softplus at an index, of a finite number. -/
theorem softs_apply (Y : FVec Ideal S8192x120 .f32) (r : Fin 8192) (n : Fin 120) (q : ℝ) (h : Y (ix2 r n) = -(q : EReal)) :
    softs Y (ix2 r n) = logSig q := by
  pointwise [softs]
  rw [h, if_neg fun hn => hn rfl]
  exact logSig_eq q

/-- The gates at an index. -/
theorem cols_apply (P : FVec Ideal S8192x128 .f32) (r : Fin 8192) (n : Fin 128) (z : EReal) (h : P (ix2 r n) = cap z) :
    cols P (ix2 r n) = gate n.val z := by
  pointwise [cols]
  unfold gate
  split_ifs with h8
  · exact h
  · obtain ⟨q, hq⟩ := cap_real z
    rw [hq]
    refine softs_apply _ r _ q ?_
    pointwise
    rw [show (⟨8 + (n.val - 8), by omega⟩ : Fin 128) = n from Fin.ext (by dsimp only; omega), h, hq]
  · exact absurd rfl ‹_›

variable (m : (ℓ : Loc nD τ sig) → Buf (Elt Ideal) ℓ) (c : Dev nD)

/-- The reference's columns. -/
theorem reference_col : res_main_v17 m c
    = wantCol (m ((c : Thread nD τ).loc main_arg0)) (m ((c : Thread nD τ).loc main_arg1)) (m ((c : Thread nD τ).loc main_arg2)) := by
  have e : res_main_v17 m c
      = cols (capped (m ((c : Thread nD τ).loc main_arg0)) (m ((c : Thread nD τ).loc main_arg1)) (m ((c : Thread nD τ).loc main_arg2))) := rfl
  rw [e]
  funext i
  obtain ⟨r, n, rfl⟩ : ∃ (r : Fin 8192) (n : Fin 128), i = ix2 r n := ⟨i 0, i 1, by
    funext a
    match a with
    | 0 => rfl
    | 1 => rfl⟩
  exact cols_apply _ r n _ (capped_apply _ _ _ r n)

/-- The reference's rows. -/
theorem reference_row : res_main_v19 m c
    = wantRow (m ((c : Thread nD τ).loc main_arg0)) (m ((c : Thread nD τ).loc main_arg1)) (m ((c : Thread nD τ).loc main_arg2)) := by
  have e : res_main_v19 m c = transpose S16x8192 [1, 0] (extractStridedSlice S8192x16 ![0, 0] (cols (capped (m ((c : Thread nD τ).loc main_arg0))
      (m ((c : Thread nD τ).loc main_arg1)) (m ((c : Thread nD τ).loc main_arg2)))) slices_S8192x128_S8192x16_0_0) transposes_S8192x16_S16x8192_1_0 := rfl
  rw [e]
  funext i
  obtain ⟨n, r, rfl⟩ : ∃ (n : Fin 16) (r : Fin 8192), i = ix2 n r := ⟨i 0, i 1, by
    funext a
    match a with
    | 0 => rfl
    | 1 => rfl⟩
  pointwise
  refine (cols_apply _ r ⟨n.val, by omega⟩ _ (capped_apply _ _ _ r _)).trans ?_
  exact congrArg (gate n.val) (dif_pos n.isLt)

end Cert.Gates

end
-- ==== Proof.lean ====
/-
  The claims of each call: the kernel as printed and with its casts between floats taken as the identity, and the
  reference, run and leave their arguments and every counter as they were; and over the reals the kernel's array is the
  reference's. The calls are the mLSTM recurrence, the feed-forward part's two products, and the mLSTM mixer's input and
  output projections.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.RefRun
public import proofs.«01_k».proof.Proof.KernelArr
public import proofs.«01_k».proof.Proof.RefArr
public import proofs.«01_k».proof.Proof.Assumed
public import proofs.«01_k».proof.Proof.Up
public import proofs.«01_k».proof.Proof.Down
public import proofs.«01_k».proof.Proof.InProj
public import proofs.«01_k».proof.Proof.OutProj
public import proofs.«01_k».proof.Proof.NsaOut
public import proofs.«01_k».proof.Proof.Queries
public import proofs.«01_k».proof.Proof.Values
public import proofs.«01_k».proof.Proof.Norm
public import proofs.«01_k».proof.Proof.NsaGates
public import proofs.«01_k».proof.Proof.Gates
public import proofs.«01_k».proof.Proof.Gen.KernelIdeal.Value
public import Idealize.ShloMosaic.Adequacy
public import Idealize.ShloMosaic.Init

@[expose] public section

noncomputable section

namespace Cert.Proof

open Idealize.ShloMosaic Idealize.SL.Sem Cert.Mlstm

/-- The reference runs, leaves its arguments as they were, and has no counter that could change. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

/-- Over the reals the kernel's array and the reference's are one array, the recurrence written as a sum over the rows
    before each row. -/
theorem same_array : @Cert.algebraic_KernelIdeal_ReferenceIdeal_pre_finite Cert.KernelIdeal.Gen.facts Cert.ReferenceIdeal.Gen.facts pre_facts := by
  intro m ρ m' ρ' hpre hagree
  haveI := pre_facts
  have hR : ∀ c, AllReal (pA m c) (gA m c) := fun c => allReal_of_pre _ _ (hpre c)
  refine ⟨fun c => spec (pA m c) (gA m c), ?_, ?_⟩
  · exact (θ_run _ _ _).mono (fun r h c => ⟨(h c).1.trans (kernel_arr m c (hR c)), (h c).2⟩) (Cert.KernelIdeal.Value.run m ρ)
  · have hrun := Cert.ReferenceIdeal.LoopRun.run_iter (F := Ideal) m' ρ'
      (fun c => states (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))
      (fun _ => rfl) (fun _ _ => rfl)
    refine (θ_run _ _ _).mono (fun r h c => ⟨(h c).1.trans ?_, (h c).2⟩) hrun
    rw [(hagree c).1, (hagree c).2]
    exact reference_arr _ _ (hR c)

/-- The reference of the first feed-forward product runs, leaves its arguments as they were, and has no counter that could change. -/
theorem reference_frame2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1)
          = m ((c.tc : Thread Cert.Reference2Ideal.nD Cert.Reference2Ideal.τ).loc Cert.Reference2Ideal.main_arg1))
        ∧ r.2.sem = fun _ => 0) :=
  (θ_run Cert.Reference2Ideal.defs _ _).mono (fun r h => ⟨fun c => (h c).2, sem_eq_zero_of_no_sems (by decide) r.2⟩) (Cert.Reference2Ideal.Value.run (F := Ideal) m ρ)

/-- Over the reals the first feed-forward product's array is its reference's. -/
theorem same_array2 : @Cert.algebraic_Kernel2Ideal_Reference2Ideal Cert.Kernel2Ideal.Gen.facts Cert.Reference2Ideal.Gen.facts := by
  intro m ρ m' ρ' _ hagree
  refine ⟨fun c => Cert.Up.want (Cert.Up.xA m c) (Cert.Up.wA m c), ?_, ?_⟩
  · exact (θ_run _ _ _).mono (fun r h c => ⟨(h c).1.trans (Cert.Up.kernel_arr m c), (h c).2⟩) (Cert.Kernel2Ideal.Value.run_blocks m ρ)
  · refine (θ_run _ _ _).mono (fun r h c => ⟨(h c).1.trans ?_, (h c).2⟩) (Cert.Reference2Ideal.Value.run (F := Ideal) m' ρ')
    rw [(hagree c).1, (hagree c).2]
    exact Cert.Up.reference_arr _ _

/-- The reference of the second feed-forward product runs, leaves its arguments as they were, and has no counter that could change. -/
theorem reference_frame3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0)
          = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1)
          = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2)
          = m ((c.tc : Thread Cert.Reference3Ideal.nD Cert.Reference3Ideal.τ).loc Cert.Reference3Ideal.main_arg2))
        ∧ r.2.sem = fun _ => 0) :=
  (θ_run Cert.Reference3Ideal.defs _ _).mono (fun r h => ⟨fun c => (h c).2, sem_eq_zero_of_no_sems (by decide) r.2⟩) (Cert.Reference3Ideal.Value.run (F := Ideal) m ρ)

/-- Over the reals the second feed-forward product's array is its reference's. -/
theorem same_array3 : @Cert.algebraic_Kernel3Ideal_Reference3Ideal Cert.Kernel3Ideal.Gen.facts Cert.Reference3Ideal.Gen.facts := by
  intro m ρ m' ρ' _ hagree
  refine ⟨fun c => Cert.Down.want (Cert.Down.hA m c) (Cert.Down.wA m c) (Cert.Down.xA m c), ?_, ?_⟩
  · exact (θ_run _ _ _).mono (fun r h c => ⟨(h c).1.trans (Cert.Down.kernel_arr m c), (h c).2⟩) (Cert.Kernel3Ideal.Value.run_blocks m ρ)
  · refine (θ_run _ _ _).mono (fun r h c => ⟨(h c).1.trans ?_, (h c).2⟩) (Cert.Reference3Ideal.Value.run (F := Ideal) m' ρ')
    rw [(hagree c).1, (hagree c).2.1, (hagree c).2.2]
    exact Cert.Down.reference_arr _ _ _

/-- The reference of the input projection runs, leaves its arguments as they were, and has no counter that could change. -/
theorem reference_frame4 (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0)
          = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1)
          = m ((c.tc : Thread Cert.Reference4Ideal.nD Cert.Reference4Ideal.τ).loc Cert.Reference4Ideal.main_arg1))
        ∧ r.2.sem = fun _ => 0) :=
  (θ_run Cert.Reference4Ideal.defs _ _).mono (fun r h => ⟨fun c => (h c).2, sem_eq_zero_of_no_sems (by decide) r.2⟩) (Cert.Reference4Ideal.Value.run (F := Ideal) m ρ)

/-- Over the reals the input projection's array is its reference's. -/
theorem same_array4 : @Cert.algebraic_Kernel4Ideal_Reference4Ideal Cert.Kernel4Ideal.Gen.facts Cert.Reference4Ideal.Gen.facts := by
  intro m ρ m' ρ' _ hagree
  refine ⟨fun c => Cert.InProj.want (Cert.InProj.xA m c) (Cert.InProj.wA m c), ?_, ?_⟩
  · exact (θ_run _ _ _).mono (fun r h c => ⟨(h c).1.trans (Cert.InProj.kernel_arr m c), (h c).2⟩) (Cert.Kernel4Ideal.Value.run_blocks m ρ)
  · refine (θ_run _ _ _).mono (fun r h c => ⟨(h c).1.trans ?_, (h c).2⟩) (Cert.Reference4Ideal.Value.run (F := Ideal) m' ρ')
    rw [(hagree c).1, (hagree c).2]
    exact Cert.InProj.reference_arr _ _

/-- The reference of the output projection runs, leaves its arguments as they were, and has no counter that could change. -/
theorem reference_frame5 (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩
      (fun r => (∀ c : Dev Cert.Reference5Ideal.nD,
        r.2.mem ((c.tc : Thread Cert.Reference5Ideal.nD Cert.Reference5Ideal.τ).loc Cert.Reference5Ideal.main_arg0)
          = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1)
          = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2)
          = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3)
          = m ((c.tc : Thread Cert.Reference5Ideal.nD Cert.Reference5Ideal.τ).loc Cert.Reference5Ideal.main_arg3))
        ∧ r.2.sem = fun _ => 0) :=
  (θ_run Cert.Reference5Ideal.defs _ _).mono (fun r h => ⟨fun c => (h c).2, sem_eq_zero_of_no_sems (by decide) r.2⟩) (Cert.Reference5Ideal.Value.run (F := Ideal) m ρ)

/-- Over the reals the output projection's array is its reference's. -/
theorem same_array5 : @Cert.algebraic_Kernel5Ideal_Reference5Ideal Cert.Kernel5Ideal.Gen.facts Cert.Reference5Ideal.Gen.facts := by
  intro m ρ m' ρ' _ hagree
  refine ⟨fun c => Cert.OutProj.want (Cert.OutProj.hA m c) (Cert.OutProj.wA m c) (Cert.OutProj.xA m c) (Cert.OutProj.gA m c), ?_, ?_⟩
  · exact (θ_run _ _ _).mono (fun r h c => ⟨(h c).1.trans (Cert.OutProj.kernel_arr m c), (h c).2⟩) (Cert.Kernel5Ideal.Value.run_blocks m ρ)
  · refine (θ_run _ _ _).mono (fun r h c => ⟨(h c).1.trans ?_, (h c).2⟩) (Cert.Reference5Ideal.Value.run (F := Ideal) m' ρ')
    rw [(hagree c).1, (hagree c).2.1, (hagree c).2.2.1, (hagree c).2.2.2]
    exact Cert.OutProj.reference_arr _ _ _ _

/-- The reference of the sparse attention's output projection runs, leaves its arguments as they were, and has no counter that could change. -/
theorem reference_frame6 (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩
      (fun r => (∀ c : Dev Cert.Reference6Ideal.nD,
        r.2.mem ((c.tc : Thread Cert.Reference6Ideal.nD Cert.Reference6Ideal.τ).loc Cert.Reference6Ideal.main_arg0)
          = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1)
          = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2)
          = m ((c.tc : Thread Cert.Reference6Ideal.nD Cert.Reference6Ideal.τ).loc Cert.Reference6Ideal.main_arg2))
        ∧ r.2.sem = fun _ => 0) :=
  (θ_run Cert.Reference6Ideal.defs _ _).mono (fun r h => ⟨fun c => (h c).2, sem_eq_zero_of_no_sems (by decide) r.2⟩) (Cert.Reference6Ideal.Value.run (F := Ideal) m ρ)

/-- Over the reals the array of the sparse attention's output projection is its reference's. -/
theorem same_array6 : @Cert.algebraic_Kernel6Ideal_Reference6Ideal Cert.Kernel6Ideal.Gen.facts Cert.Reference6Ideal.Gen.facts := by
  intro m ρ m' ρ' _ hagree
  refine ⟨fun c => Cert.NsaOut.want (Cert.NsaOut.hA m c) (Cert.NsaOut.wA m c) (Cert.NsaOut.xA m c), ?_, ?_⟩
  · exact (θ_run _ _ _).mono (fun r h c => ⟨(h c).1.trans (Cert.NsaOut.kernel_arr m c), (h c).2⟩) (Cert.Kernel6Ideal.Value.run_blocks m ρ)
  · refine (θ_run _ _ _).mono (fun r h c => ⟨(h c).1.trans ?_, (h c).2⟩) (Cert.Reference6Ideal.Value.run (F := Ideal) m' ρ')
    rw [(hagree c).1, (hagree c).2.1, (hagree c).2.2]
    exact Cert.NsaOut.reference_arr _ _ _

/-- The reference of the query projection runs, leaves its arguments as they were, and has no counter that could change. -/
theorem reference_frame7 (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩
      (fun r => (∀ c : Dev Cert.Reference7Ideal.nD,
        r.2.mem ((c.tc : Thread Cert.Reference7Ideal.nD Cert.Reference7Ideal.τ).loc Cert.Reference7Ideal.main_arg0)
          = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1)
          = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2)
          = m ((c.tc : Thread Cert.Reference7Ideal.nD Cert.Reference7Ideal.τ).loc Cert.Reference7Ideal.main_arg2))
        ∧ r.2.sem = fun _ => 0) :=
  (θ_run Cert.Reference7Ideal.defs _ _).mono (fun r h => ⟨fun c => (h c).2, sem_eq_zero_of_no_sems (by decide) r.2⟩) (Cert.Reference7Ideal.Value.run (F := Ideal) m ρ)

/-- Over the reals the array of the query projection is its reference's. -/
theorem same_array7 : @Cert.algebraic_Kernel7Ideal_Reference7Ideal Cert.Kernel7Ideal.Gen.facts Cert.Reference7Ideal.Gen.facts := by
  intro m ρ m' ρ' _ hagree
  refine ⟨fun c => Cert.Queries.want (Cert.Queries.xA m c) (Cert.Queries.wA m c) (Cert.Queries.gA m c), ?_, ?_⟩
  · exact (θ_run _ _ _).mono (fun r h c => ⟨(h c).1.trans (Cert.Queries.kernel_arr m c), (h c).2⟩) (Cert.Kernel7Ideal.Value.run_blocks m ρ)
  · refine (θ_run _ _ _).mono (fun r h c => ⟨(h c).1.trans ?_, (h c).2⟩) (Cert.Reference7Ideal.Value.run (F := Ideal) m' ρ')
    rw [(hagree c).1, (hagree c).2.1, (hagree c).2.2]
    exact Cert.Queries.reference_arr _ _ _

/-- The reference of the value projection runs, leaves its arguments as they were, and has no counter that could change. -/
theorem reference_frame8 (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩
      (fun r => (∀ c : Dev Cert.Reference8Ideal.nD,
        r.2.mem ((c.tc : Thread Cert.Reference8Ideal.nD Cert.Reference8Ideal.τ).loc Cert.Reference8Ideal.main_arg0)
          = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1)
          = m ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2)
          = m ((c.tc : Thread Cert.Reference8Ideal.nD Cert.Reference8Ideal.τ).loc Cert.Reference8Ideal.main_arg2))
        ∧ r.2.sem = fun _ => 0) :=
  (θ_run Cert.Reference8Ideal.defs _ _).mono (fun r h => ⟨fun c => (h c).2, sem_eq_zero_of_no_sems (by decide) r.2⟩) (Cert.Reference8Ideal.Value.run (F := Ideal) m ρ)

/-- Over the reals the array of the value projection is its reference's. -/
theorem same_array8 : @Cert.algebraic_Kernel8Ideal_Reference8Ideal Cert.Kernel8Ideal.Gen.facts Cert.Reference8Ideal.Gen.facts := by
  intro m ρ m' ρ' _ hagree
  refine ⟨fun c => Cert.Values.want (Cert.Values.wA m c) (Cert.Values.xA m c) (Cert.Values.gA m c), ?_, ?_⟩
  · exact (θ_run _ _ _).mono (fun r h c => ⟨(h c).1.trans (Cert.Values.kernel_arr m c), (h c).2⟩) (Cert.Kernel8Ideal.Value.run_blocks m ρ)
  · refine (θ_run _ _ _).mono (fun r h c => ⟨(h c).1.trans ?_, (h c).2⟩) (Cert.Reference8Ideal.Value.run (F := Ideal) m' ρ')
    rw [(hagree c).1, (hagree c).2.1, (hagree c).2.2]
    exact Cert.Values.reference_arr _ _ _

/-- The reference of the row norm runs, leaves its arguments as they were, and has no counter that could change. -/
theorem reference_frame9 (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩
      (fun r => (∀ c : Dev Cert.Reference9Ideal.nD,
        r.2.mem ((c.tc : Thread Cert.Reference9Ideal.nD Cert.Reference9Ideal.τ).loc Cert.Reference9Ideal.main_arg0)
          = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1)
          = m ((c.tc : Thread Cert.Reference9Ideal.nD Cert.Reference9Ideal.τ).loc Cert.Reference9Ideal.main_arg1))
        ∧ r.2.sem = fun _ => 0) :=
  (θ_run Cert.Reference9Ideal.defs _ _).mono (fun r h => ⟨fun c => (h c).2, sem_eq_zero_of_no_sems (by decide) r.2⟩) (Cert.Reference9Ideal.Value.run (F := Ideal) m ρ)

/-- Over the reals the array of the row norm is its reference's. -/
theorem same_array9 : @Cert.algebraic_Kernel9Ideal_Reference9Ideal Cert.Kernel9Ideal.Gen.facts Cert.Reference9Ideal.Gen.facts := by
  intro m ρ m' ρ' _ hagree
  refine ⟨fun c => Cert.Norm.want (Cert.Norm.xA m c) (Cert.Norm.gA m c), ?_, ?_⟩
  · exact (θ_run _ _ _).mono (fun r h c => ⟨(h c).1.trans (Cert.Norm.kernel_arr m c), (h c).2⟩) (Cert.Kernel9Ideal.Value.run_blocks m ρ)
  · refine (θ_run _ _ _).mono (fun r h c => ⟨(h c).1.trans ?_, (h c).2⟩) (Cert.Reference9Ideal.Value.run (F := Ideal) m' ρ')
    rw [(hagree c).1, (hagree c).2]
    exact Cert.Norm.reference_arr _ _

/-- The reference of the sparse attention's branch gates runs, leaves its arguments as they were, and has no counter that could change. -/
theorem reference_frame10 (m : (ℓ : Loc Cert.Reference10Ideal.nD Cert.Reference10Ideal.τ Cert.Reference10Ideal.sig) → Buf (Elt Ideal) ℓ) (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩
      (fun r => (∀ c : Dev Cert.Reference10Ideal.nD,
        r.2.mem ((c.tc : Thread Cert.Reference10Ideal.nD Cert.Reference10Ideal.τ).loc Cert.Reference10Ideal.main_arg0)
          = m ((c.tc : Thread Cert.Reference10Ideal.nD Cert.Reference10Ideal.τ).loc Cert.Reference10Ideal.main_arg0)
        ∧ r.2.mem ((c.tc : Thread Cert.Reference10Ideal.nD Cert.Reference10Ideal.τ).loc Cert.Reference10Ideal.main_arg1)
          = m ((c.tc : Thread Cert.Reference10Ideal.nD Cert.Reference10Ideal.τ).loc Cert.Reference10Ideal.main_arg1)
        ∧ r.2.mem ((c.tc : Thread Cert.Reference10Ideal.nD Cert.Reference10Ideal.τ).loc Cert.Reference10Ideal.main_arg2)
          = m ((c.tc : Thread Cert.Reference10Ideal.nD Cert.Reference10Ideal.τ).loc Cert.Reference10Ideal.main_arg2))
        ∧ r.2.sem = fun _ => 0) :=
  (θ_run Cert.Reference10Ideal.defs _ _).mono (fun r h => ⟨fun c => (h c).2, sem_eq_zero_of_no_sems (by decide) r.2⟩) (Cert.Reference10Ideal.Value.run (F := Ideal) m ρ)

/-- Over the reals the array of the sparse attention's branch gates is its reference's. -/
theorem same_array10 : @Cert.algebraic_Kernel10Ideal_Reference10Ideal Cert.Kernel10Ideal.Gen.facts Cert.Reference10Ideal.Gen.facts := by
  intro m ρ m' ρ' _ hagree
  refine ⟨fun c => Cert.NsaGates.want (Cert.NsaGates.wA m c) (Cert.NsaGates.xA m c) (Cert.NsaGates.gA m c), ?_, ?_⟩
  · exact (θ_run _ _ _).mono (fun r h c => ⟨(h c).1.trans (Cert.NsaGates.kernel_arr m c), (h c).2⟩) (Cert.Kernel10Ideal.Value.run_blocks m ρ)
  · refine (θ_run _ _ _).mono (fun r h c => ⟨(h c).1.trans ?_, (h c).2⟩) (Cert.Reference10Ideal.Value.run (F := Ideal) m' ρ')
    rw [(hagree c).1, (hagree c).2.1, (hagree c).2.2]
    exact Cert.NsaGates.reference_arr _ _ _

/-- The reference of the mLSTM mixer's log gates runs, leaves its arguments as they were, and has no counter that could change. -/
theorem reference_frame11 (m : (ℓ : Loc Cert.Reference11Ideal.nD Cert.Reference11Ideal.τ Cert.Reference11Ideal.sig) → Buf (Elt Ideal) ℓ) (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩
      (fun r => (∀ c : Dev Cert.Reference11Ideal.nD,
        r.2.mem ((c.tc : Thread Cert.Reference11Ideal.nD Cert.Reference11Ideal.τ).loc Cert.Reference11Ideal.main_arg0)
          = m ((c.tc : Thread Cert.Reference11Ideal.nD Cert.Reference11Ideal.τ).loc Cert.Reference11Ideal.main_arg0)
        ∧ r.2.mem ((c.tc : Thread Cert.Reference11Ideal.nD Cert.Reference11Ideal.τ).loc Cert.Reference11Ideal.main_arg1)
          = m ((c.tc : Thread Cert.Reference11Ideal.nD Cert.Reference11Ideal.τ).loc Cert.Reference11Ideal.main_arg1)
        ∧ r.2.mem ((c.tc : Thread Cert.Reference11Ideal.nD Cert.Reference11Ideal.τ).loc Cert.Reference11Ideal.main_arg2)
          = m ((c.tc : Thread Cert.Reference11Ideal.nD Cert.Reference11Ideal.τ).loc Cert.Reference11Ideal.main_arg2))
        ∧ r.2.sem = fun _ => 0) :=
  (θ_run Cert.Reference11Ideal.defs _ _).mono (fun r h => ⟨fun c => (h c).2.2, sem_eq_zero_of_no_sems (by decide) r.2⟩) (Cert.Reference11Ideal.Value.run (F := Ideal) m ρ)

/-- Over the reals the arrays of the mLSTM mixer's log gates are its reference's. -/
theorem same_array11 : @Cert.algebraic_Kernel11Ideal_Reference11Ideal Cert.Kernel11Ideal.Gen.facts Cert.Reference11Ideal.Gen.facts := by
  intro m ρ m' ρ' _ hagree
  refine ⟨fun c => Cert.Gates.wantCol (Cert.Gates.xA m c) (Cert.Gates.wA m c) (Cert.Gates.bA m c), fun c => Cert.Gates.wantRow (Cert.Gates.xA m c) (Cert.Gates.wA m c) (Cert.Gates.bA m c), ?_, ?_⟩
  · exact (θ_run _ _ _).mono (fun r h c => ⟨(h c).1.trans (Cert.Gates.kernel_col m c), (h c).2.1.trans (Cert.Gates.kernel_row m c), (h c).2.2⟩)
      (Cert.Kernel11Ideal.Value.run_blocks m ρ)
  · refine (θ_run _ _ _).mono (fun r h c => ⟨((h c).1.trans (Cert.Gates.reference_col m' c)).trans ?_,
      ((h c).2.1.trans (Cert.Gates.reference_row m' c)).trans ?_, (h c).2.2⟩) (Cert.Reference11Ideal.Value.run (F := Ideal) m' ρ')
    · rw [(hagree c).1, (hagree c).2.1, (hagree c).2.2]
    · rw [(hagree c).1, (hagree c).2.1, (hagree c).2.2]

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts, pre_facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.Kernel2.Gen.frame m ρ, fun m ρ _ => Cert.Kernel2Ideal.Gen.frame m ρ, fun m ρ _ => reference_frame2 m ρ,
    fun m ρ _ => Cert.Kernel3.Gen.frame m ρ, fun m ρ _ => Cert.Kernel3Ideal.Gen.frame m ρ, fun m ρ _ => reference_frame3 m ρ,
    fun m ρ _ => Cert.Kernel4.Gen.frame m ρ, fun m ρ _ => Cert.Kernel4Ideal.Gen.frame m ρ, fun m ρ _ => reference_frame4 m ρ,
    fun m ρ _ => Cert.Kernel5.Gen.frame m ρ, fun m ρ _ => Cert.Kernel5Ideal.Gen.frame m ρ, fun m ρ _ => reference_frame5 m ρ,
    fun m ρ _ => Cert.Kernel6.Gen.frame m ρ, fun m ρ _ => Cert.Kernel6Ideal.Gen.frame m ρ, fun m ρ _ => reference_frame6 m ρ,
    fun m ρ _ => Cert.Kernel7.Gen.frame m ρ, fun m ρ _ => Cert.Kernel7Ideal.Gen.frame m ρ, fun m ρ _ => reference_frame7 m ρ,
    fun m ρ _ => Cert.Kernel8.Gen.frame m ρ, fun m ρ _ => Cert.Kernel8Ideal.Gen.frame m ρ, fun m ρ _ => reference_frame8 m ρ,
    fun m ρ _ => Cert.Kernel9.Gen.frame m ρ, fun m ρ _ => Cert.Kernel9Ideal.Gen.frame m ρ, fun m ρ _ => reference_frame9 m ρ,
    fun m ρ _ => Cert.Kernel10.Gen.frame m ρ, fun m ρ _ => Cert.Kernel10Ideal.Gen.frame m ρ, fun m ρ _ => reference_frame10 m ρ,
    fun m ρ _ => Cert.Kernel11.Gen.frame m ρ, fun m ρ _ => Cert.Kernel11Ideal.Gen.frame m ρ, fun m ρ _ => reference_frame11 m ρ,
    trivial, same_array, trivial, same_array2, trivial, same_array3, trivial, same_array4, trivial, same_array5, trivial, same_array6, trivial, same_array7, trivial, same_array8, trivial, same_array9, trivial, same_array10, trivial, same_array11⟩

end Cert.Proof

end
